-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_symmetric [hPre_symmetric : Cert.Pre_symmetric.Facts] (m : (ℓ : Loc Cert.KernelIdeal.nD Cert.KernelIdeal.τ Cert.KernelIdeal.sig) → Buf (Elt Ideal) ℓ) : Prop :=
  ∀ c : Dev Cert.KernelIdeal.nD,
    (Cert.Pre_symmetric.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_symmetric [hPre_symmetric : Cert.Pre_symmetric.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_symmetric.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_symmetric [hKernelIdeal : Cert.KernelIdeal.Facts] [hPre_symmetric : Cert.Pre_symmetric.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_symmetric m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_symmetric [hReferenceIdeal : Cert.ReferenceIdeal.Facts] [hPre_symmetric : Cert.Pre_symmetric.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_symmetric m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_symmetric [hKernelIdeal : Cert.KernelIdeal.Facts] [hReferenceIdeal : Cert.ReferenceIdeal.Facts] [hPre_symmetric : Cert.Pre_symmetric.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_symmetric m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_symmetric : Cert.Pre_symmetric.Facts),
    quiescent_Kernel (hKernel := hKernel)
    ∧ quiescent_KernelIdeal (hKernelIdeal := hKernelIdeal)
    ∧ quiescent_KernelIdeal_pre_symmetric (hKernelIdeal := hKernelIdeal) (hPre_symmetric := hPre_symmetric)
    ∧ quiescent_ReferenceIdeal (hReferenceIdeal := hReferenceIdeal)
    ∧ quiescent_ReferenceIdeal_pre_symmetric (hReferenceIdeal := hReferenceIdeal) (hPre_symmetric := hPre_symmetric)
    ∧ preserves_Kernel_KernelIdeal
    ∧ algebraic_KernelIdeal_ReferenceIdeal_pre_symmetric (hKernelIdeal := hKernelIdeal) (hReferenceIdeal := hReferenceIdeal) (hPre_symmetric := hPre_symmetric)
-- ==== Pre_symmetric.lean ====
abbrev S5x460x6144 : Shape := ⟨3, ![5, 460, 6144]⟩
abbrev S5x460 : Shape := ⟨2, ![5, 460]⟩
abbrev S5 : Shape := ⟨1, ![5]⟩
abbrev S5x6144x6144 : Shape := ⟨3, ![5, 6144, 6144]⟩

class Facts : Prop where
  transposes_S5x6144x6144_S5x6144x6144_0_2_1 : S5x6144x6144.Transposes [0, 2, 1] S5x6144x6144

variable [Facts]

def fn {F : FTy → Type} [FloatOps F] (main_arg0 : FVec F S5x460x6144 .fp8e4m3) (main_arg1 : FVec F S5x460 .f32) (main_arg2 : IVec S5 32) (main_arg3 : FVec F S5x6144x6144 .f32) (main_arg4 : IVec S5 32) : IVec S5x6144x6144 1 :=
  let main_v0 : FVec F S5x6144x6144 .f32 := (transpose S5x6144x6144 [0, 2, 1] · transposes_S5x6144x6144_S5x6144x6144_0_2_1) main_arg3
  let main_v1 : IVec S5x6144x6144 1 := cmpf .oeq main_arg3 main_v0
  main_v1
-- ==== Kernel.lean ====
abbrev S5x460x6144 : Shape := ⟨3, ![5, 460, 6144]⟩
abbrev S5x460 : Shape := ⟨2, ![5, 460]⟩
abbrev S5 : Shape := ⟨1, ![5]⟩
abbrev S5x6144x6144 : Shape := ⟨3, ![5, 6144, 6144]⟩
abbrev S460x6144 : Shape := ⟨2, ![460, 6144]⟩
abbrev S6144x512 : Shape := ⟨2, ![6144, 512]⟩
abbrev S12x512x512 : Shape := ⟨3, ![12, 512, 512]⟩
abbrev S8x512x512 : Shape := ⟨3, ![8, 512, 512]⟩
abbrev S_ : Shape := ⟨0, ![]⟩
abbrev S12 : Shape := ⟨1, ![12]⟩
abbrev S8 : Shape := ⟨1, ![8]⟩
abbrev S1x460x6144 : Shape := ⟨3, ![1, 460, 6144]⟩
abbrev S1 : Shape := ⟨1, ![1]⟩
abbrev S1x512x512 : Shape := ⟨3, ![1, 512, 512]⟩
abbrev S512x512 : Shape := ⟨2, ![512, 512]⟩
abbrev S1x512 : Shape := ⟨2, ![1, 512]⟩
abbrev S1x460 : Shape := ⟨2, ![1, 460]⟩
abbrev S1x52 : Shape := ⟨2, ![1, 52]⟩
abbrev S460x128 : Shape := ⟨2, ![460, 128]⟩
abbrev S52x128 : Shape := ⟨2, ![52, 128]⟩
abbrev S512x128 : Shape := ⟨2, ![512, 128]⟩
abbrev S128x512 : Shape := ⟨2, ![128, 512]⟩
abbrev S1x128 : Shape := ⟨2, ![1, 128]⟩
abbrev S1x1 : Shape := ⟨2, ![1, 1]⟩
abbrev S256x512 : Shape := ⟨2, ![256, 512]⟩
abbrev S512x256 : Shape := ⟨2, ![512, 256]⟩
abbrev S1x512x256 : Shape := ⟨3, ![1, 512, 256]⟩
abbrev S1x256x512 : Shape := ⟨3, ![1, 256, 512]⟩

abbrev nBuf : Space → Nat
  | .hbm => 7
  | .vmem => 6
  | .smem => 3
  | _ => 0

abbrev bufTy : (tb : Table) → Fin (tcTables nBuf tb) → BufTy
  | .hbm, ⟨0, _⟩ => ⟨S5x460x6144, .fp8e4m3⟩
  | .hbm, ⟨1, _⟩ => ⟨S5x460, .f32⟩
  | .hbm, ⟨2, _⟩ => ⟨S5, .i32⟩
  | .hbm, ⟨3, _⟩ => ⟨S5x6144x6144, .f32⟩
  | .hbm, ⟨4, _⟩ => ⟨S5, .i32⟩
  | .hbm, ⟨5, _⟩ => ⟨S5x6144x6144, .f32⟩
  | .hbm, ⟨6, _⟩ => ⟨S5, .i32⟩
  | .local _ .vmem, ⟨0, _⟩ => ⟨S460x6144, .fp8e4m3⟩
  | .local _ .vmem, ⟨1, _⟩ => ⟨S5x460, .f32⟩
  | .local _ .vmem, ⟨2, _⟩ => ⟨S6144x512, .bf16⟩
  | .local _ .vmem, ⟨3, _⟩ => ⟨S12x512x512, .f32⟩
  | .local _ .vmem, ⟨4, _⟩ => ⟨S8x512x512, .f32⟩
  | .local _ .vmem, ⟨5, _⟩ => ⟨S8x512x512, .f32⟩
  | .local _ .smem, ⟨0, _⟩ => ⟨S5, .i32⟩
  | .local _ .smem, ⟨1, _⟩ => ⟨S5, .i32⟩
  | .local _ .smem, ⟨2, _⟩ => ⟨S5, .i32⟩
  | _, _ => ⟨S5x460x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_5 : BitVec 32 := 0#32
  let c12_i32 : BitVec 32 := 12#32
  let v2 : BitVec 32 := Scalar.addi c0_i32_5 c12_i32
  let c1_i32 : BitVec 32 := 1#32
  ⟨c0_i32_5, v2, c1_i32⟩
def k0_off1 (k0_t1 : Fin k0_t1_loop.trips) : Fin 1 → Nat :=
  let c0_i32_5 : BitVec 32 := 0#32
  let c1_i32 : BitVec 32 := 1#32
  let arg18 : BitVec 32 := Scf.iv c0_i32_5 c1_i32 k0_t1
  ![arg18.toNat]
def k0_off2 (k0_t1 : Fin k0_t1_loop.trips) : Fin 3 → Nat :=
  let c0_i32_5 : BitVec 32 := 0#32
  let c1_i32 : BitVec 32 := 1#32
  let arg18 : BitVec 32 := Scf.iv c0_i32_5 c1_i32 k0_t1
  let c0_i32_29 : BitVec 32 := 0#32
  let c0_i32_30 : BitVec 32 := 0#32
  ![arg18.toNat, 0, 0]
def k0_off3 (arg19 : BitVec 32) (arg20 : BitVec 32) (arg21 : BitVec 32) : Fin 3 → Nat :=
  let c512_i32 : BitVec 32 := 512#32
  let v28 : BitVec 32 := Scalar.muli arg20 c512_i32
  let c512_i32_28 : BitVec 32 := 512#32
  let v29 : BitVec 32 := Scalar.muli arg21 c512_i32_28
  ![arg19.toNat, v28.toNat, v29.toNat]

def k0_chk1 (arg19 : BitVec 32) (arg20 : BitVec 32) (arg21 : BitVec 32) : Prop :=
  (∀ a, (k0_off3 arg19 arg20 arg21) a + S1x512x512.size a ≤ S5x6144x6144.size a)
theorem k0_off3_inb : ∀ (arg19 : BitVec 32) (arg20 : BitVec 32) (arg21 : BitVec 32) (k0_hw1 : k0_chk1 arg19 arg20 arg21), ∀ a, (k0_off3 arg19 arg20 arg21) a + S1x512x512.size a ≤ S5x6144x6144.size a := fun arg19 arg20 arg21 k0_hw1 => k0_hw1

@[reducible] def k0_t2_loop : Scf.Loop 32 :=
  let c0_i32_23 : BitVec 32 := 0#32
  let c390_i32 : BitVec 32 := 390#32
  let v24 : BitVec 32 := Scalar.addi c0_i32_23 c390_i32
  let c1_i32_24 : BitVec 32 := 1#32
  ⟨c0_i32_23, v24, c1_i32_24⟩
def k0_off4 (arg19 : BitVec 32) : Fin 3 → Nat :=
  let c0_i32_94 : BitVec 32 := 0#32
  let c0_i32_95 : BitVec 32 := 0#32
  ![arg19.toNat, 0, 0]
def k0_cond1 (arg20 : BitVec 32) : BitVec 1 :=
  let c0_i32_30 : BitVec 32 := 0#32
  let v30 : BitVec 1 := Scalar.cmpi .eq arg20 c0_i32_30
  let v31 : BitVec 32 := Scalar.extui v30
  let c0_i32_31 : BitVec 32 := 0#32
  let v32 : BitVec 1 := Scalar.cmpi .ne v31 c0_i32_31
  v32

def k0_cond2 (arg21 : BitVec 32) : BitVec 1 :=
  let c0_i32_85 : BitVec 32 := 0#32
  let v156 : BitVec 1 := Scalar.cmpi .eq arg21 c0_i32_85
  let v157 : BitVec 32 := Scalar.extui v156
  let c0_i32_86 : BitVec 32 := 0#32
  let v158 : BitVec 1 := Scalar.cmpi .ne v157 c0_i32_86
  v158

def k0_off5 (arg19 : BitVec 32) : Fin 2 → Nat :=
  let v160 : Index := Scalar.indexCast arg19
  let c0_87 : Index := 0#32
  ![v160.toNat, 0]

def k0_off6 (arg19 : BitVec 32) : Fin 1 → Nat :=
  let v166 : Index := Scalar.indexCast arg19
  ![v166.toNat]
@[reducible] def k0_t3_loop : Scf.Loop 32 :=
  let c0_i32_89 : BitVec 32 := 0#32
  let c4_i32 : BitVec 32 := 4#32
  let v170 : BitVec 32 := Scalar.addi c0_i32_89 c4_i32
  let c1_i32_90 : BitVec 32 := 1#32
  ⟨c0_i32_89, v170, c1_i32_90⟩
def k0_mult1 (arg21 : BitVec 32) (k0_t3 : Fin k0_t3_loop.trips) : BitVec 32 :=
  let c512_i32_94 : BitVec 32 := 512#32
  let v177 : BitVec 32 := Scalar.muli arg21 c512_i32_94
  let c0_i32_89 : BitVec 32 := 0#32
  let c1_i32_90 : BitVec 32 := 1#32
  let arg28 : BitVec 32 := Scf.iv c0_i32_89 c1_i32_90 k0_t3
  let c128_i32 : BitVec 32 := 128#32
  let v178 : BitVec 32 := Scalar.muli arg28 c128_i32
  let v179 : BitVec 32 := Scalar.addi v177 v178
  v179
def k0_off7 (arg21 : BitVec 32) (k0_t3 : Fin k0_t3_loop.trips) : Fin 2 → Nat :=
  let c0_95 : Index := 0#32
  let c512_i32_94 : BitVec 32 := 512#32
  let v177 : BitVec 32 := Scalar.muli arg21 c512_i32_94
  let c0_i32_89 : BitVec 32 := 0#32
  let c1_i32_90 : BitVec 32 := 1#32
  let arg28 : BitVec 32 := Scf.iv c0_i32_89 c1_i32_90 k0_t3
  let c128_i32 : BitVec 32 := 128#32
  let v178 : BitVec 32 := Scalar.muli arg28 c128_i32
  let v179 : BitVec 32 := Scalar.addi v177 v178
  let v180 : BitVec 32 := v179
  let v181 : Index := Scalar.indexCast v180
  ![0, v181.toNat]
def k0_off8 (arg21 : BitVec 32) (k0_t3 : Fin k0_t3_loop.trips) : Fin 2 → Nat :=
  let c512_i32_94 : BitVec 32 := 512#32
  let v177 : BitVec 32 := Scalar.muli arg21 c512_i32_94
  let c0_i32_89 : BitVec 32 := 0#32
  let c1_i32_90 : BitVec 32 := 1#32
  let arg28 : BitVec 32 := Scf.iv c0_i32_89 c1_i32_90 k0_t3
  let c128_i32 : BitVec 32 := 128#32
  let v178 : BitVec 32 := Scalar.muli arg28 c128_i32
  let v179 : BitVec 32 := Scalar.addi v177 v178
  let v180 : BitVec 32 := v179
  let v194 : Index := Scalar.indexCast v180
  let c0_98 : Index := 0#32
  ![v194.toNat, 0]
def k0_off9 (arg19 : BitVec 32) : Fin 3 → Nat :=
  let c1_i32_94 : BitVec 32 := 1#32
  let v177 : BitVec 32 := Scalar.addi arg19 c1_i32_94
  let c0_i32_95 : BitVec 32 := 0#32
  let c0_i32_96 : BitVec 32 := 0#32
  ![v177.toNat, 0, 0]
def k0_cond3 (arg19 : BitVec 32) (arg21 : BitVec 32) : BitVec 1 :=
  let c11_i32 : BitVec 32 := 11#32
  let v171 : BitVec 1 := Scalar.cmpi .eq arg21 c11_i32
  let c1_i32_92 : BitVec 32 := 1#32
  let v172 : BitVec 32 := Scalar.addi arg19 c1_i32_92
  let c5_i32 : BitVec 32 := 5#32
  let v173 : BitVec 1 := Scalar.cmpi .slt v172 c5_i32
  let v174 : BitVec 1 := Scalar.andi v171 v173
  let v175 : BitVec 32 := Scalar.extui v174
  let c0_i32_93 : BitVec 32 := 0#32
  let v176 : BitVec 1 := Scalar.cmpi .ne v175 c0_i32_93
  v176

def k0_cond4 (k0_t2 : Fin k0_t2_loop.trips) : BitVec 1 :=
  let c0_i32_23 : BitVec 32 := 0#32
  let c1_i32_24 : BitVec 32 := 1#32
  let arg18 : BitVec 32 := Scf.iv c0_i32_23 c1_i32_24 k0_t2
  let c8_i32_32 : BitVec 32 := 8#32
  let v33 : BitVec 1 := Scalar.cmpi .sge arg18 c8_i32_32
  let v34 : BitVec 32 := Scalar.extui v33
  let c0_i32_33 : BitVec 32 := 0#32
  let v35 : BitVec 1 := Scalar.cmpi .ne v34 c0_i32_33
  v35

def k0_off10 (k0_t2 : Fin k0_t2_loop.trips) : Fin 1 → Nat :=
  let c0_i32_23 : BitVec 32 := 0#32
  let c1_i32_24 : BitVec 32 := 1#32
  let arg18 : BitVec 32 := Scf.iv c0_i32_23 c1_i32_24 k0_t2
  let c8_i32_29 : BitVec 32 := 8#32
  let v29 : BitVec 32 := Scalar.remsi arg18 c8_i32_29
  ![v29.toNat]
def k0_off11 (arg25 : BitVec 32) (arg26 : BitVec 32) (arg27 : BitVec 32) : Fin 3 → Nat :=
  let c512_i32_85 : BitVec 32 := 512#32
  let v156 : BitVec 32 := Scalar.muli arg26 c512_i32_85
  let c512_i32_86 : BitVec 32 := 512#32
  let v157 : BitVec 32 := Scalar.muli arg27 c512_i32_86
  ![arg25.toNat, v156.toNat, v157.toNat]

def k0_off12 (k0_t2 : Fin k0_t2_loop.trips) : Fin 3 → Nat :=
  let c0_i32_23 : BitVec 32 := 0#32
  let c1_i32_24 : BitVec 32 := 1#32
  let arg18 : BitVec 32 := Scf.iv c0_i32_23 c1_i32_24 k0_t2
  let c8_i32_29 : BitVec 32 := 8#32
  let v29 : BitVec 32 := Scalar.remsi arg18 c8_i32_29
  let c0_i32_87 : BitVec 32 := 0#32
  let c0_i32_88 : BitVec 32 := 0#32
  ![v29.toNat, 0, 0]
def k0_off13 (k0_t2 : Fin k0_t2_loop.trips) : Fin 1 → Nat :=
  let c0_i32_23 : BitVec 32 := 0#32
  let c1_i32_24 : BitVec 32 := 1#32
  let arg18 : BitVec 32 := Scf.iv c0_i32_23 c1_i32_24 k0_t2
  let c8_i32_29 : BitVec 32 := 8#32
  let v29 : BitVec 32 := Scalar.remsi arg18 c8_i32_29
  ![v29.toNat]
def k0_off14 (arg25 : BitVec 32) (arg26 : BitVec 32) (arg27 : BitVec 32) : Fin 3 → Nat :=
  let c512_i32_90 : BitVec 32 := 512#32
  let v167 : BitVec 32 := Scalar.muli arg27 c512_i32_90
  let c512_i32_91 : BitVec 32 := 512#32
  let v168 : BitVec 32 := Scalar.muli arg26 c512_i32_91
  ![arg25.toNat, v167.toNat, v168.toNat]
def k0_cond5 (arg26 : BitVec 32) (arg27 : BitVec 32) : BitVec 1 :=
  let v164 : BitVec 1 := Scalar.cmpi .ne arg26 arg27
  let v165 : BitVec 32 := Scalar.extui v164
  let c0_i32_89 : BitVec 32 := 0#32
  let v166 : BitVec 1 := Scalar.cmpi .ne v165 c0_i32_89
  v166

def k0_chk4 (k0_t2 : Fin k0_t2_loop.trips) (arg25 : BitVec 32) (arg26 : BitVec 32) (arg27 : BitVec 32) : Prop :=
  (∀ (k0_h4 : k0_cond4 k0_t2 = 1#1), ∀ a, (k0_off11 arg25 arg26 arg27) a + S1x512x512.size a ≤ S5x6144x6144.size a) ∧
  (∀ (k0_h4 : k0_cond4 k0_t2 = 1#1), ∀ (k0_h5 : k0_cond5 arg26 arg27 = 1#1), ∀ a, (k0_off14 arg25 arg26 arg27) a + S1x512x512.size a ≤ S5x6144x6144.size a)
theorem k0_off11_inb : ∀ (k0_t2 : Fin k0_t2_loop.trips) (arg25 : BitVec 32) (arg26 : BitVec 32) (arg27 : BitVec 32) (k0_hw4 : k0_chk4 k0_t2 arg25 arg26 arg27), ∀ (k0_h4 : k0_cond4 k0_t2 = 1#1), ∀ a, (k0_off11 arg25 arg26 arg27) a + S1x512x512.size a ≤ S5x6144x6144.size a := fun k0_t2 arg25 arg26 arg27 k0_hw4 k0_h4 => k0_hw4.1 k0_h4
theorem k0_off14_inb : ∀ (k0_t2 : Fin k0_t2_loop.trips) (arg25 : BitVec 32) (arg26 : BitVec 32) (arg27 : BitVec 32) (k0_hw4 : k0_chk4 k0_t2 arg25 arg26 arg27), ∀ (k0_h4 : k0_cond4 k0_t2 = 1#1), ∀ (k0_h5 : k0_cond5 arg26 arg27 = 1#1), ∀ a, (k0_off14 arg25 arg26 arg27) a + S1x512x512.size a ≤ S5x6144x6144.size a := fun k0_t2 arg25 arg26 arg27 k0_hw4 k0_h4 k0_h5 => k0_hw4.2 k0_h4 k0_h5

def k0_off15 (k0_t2 : Fin k0_t2_loop.trips) : Fin 3 → Nat :=
  let c0_i32_23 : BitVec 32 := 0#32
  let c1_i32_24 : BitVec 32 := 1#32
  let arg18 : BitVec 32 := Scf.iv c0_i32_23 c1_i32_24 k0_t2
  let c8_i32_29 : BitVec 32 := 8#32
  let v29 : BitVec 32 := Scalar.remsi arg18 c8_i32_29
  let c0_i32_92 : BitVec 32 := 0#32
  let c0_i32_93 : BitVec 32 := 0#32
  ![v29.toNat, 0, 0]
def k0_off16 (k0_t2 : Fin k0_t2_loop.trips) : Fin 1 → Nat :=
  let c0_i32_23 : BitVec 32 := 0#32
  let c1_i32_24 : BitVec 32 := 1#32
  let arg18 : BitVec 32 := Scf.iv c0_i32_23 c1_i32_24 k0_t2
  let c12_i32_28 : BitVec 32 := 12#32
  let v28 : BitVec 32 := Scalar.remsi arg18 c12_i32_28
  ![v28.toNat]
def k0_off17 (k0_t2 : Fin k0_t2_loop.trips) : Fin 3 → Nat :=
  let c0_i32_23 : BitVec 32 := 0#32
  let c1_i32_24 : BitVec 32 := 1#32
  let arg18 : BitVec 32 := Scf.iv c0_i32_23 c1_i32_24 k0_t2
  let c12_i32_28 : BitVec 32 := 12#32
  let v28 : BitVec 32 := Scalar.remsi arg18 c12_i32_28
  let c0_i32_35 : BitVec 32 := 0#32
  let c0_i32_36 : BitVec 32 := 0#32
  ![v28.toNat, 0, 0]
def k0_off18 (arg19 : BitVec 32) (arg20 : BitVec 32) (arg21 : BitVec 32) : Fin 3 → Nat :=
  let c512_i32 : BitVec 32 := 512#32
  let v36 : BitVec 32 := Scalar.muli arg20 c512_i32
  let c512_i32_34 : BitVec 32 := 512#32
  let v37 : BitVec 32 := Scalar.muli arg21 c512_i32_34
  ![arg19.toNat, v36.toNat, v37.toNat]
def k0_off19 (arg19 : BitVec 32) : Fin 1 → Nat :=
  let v44 : Index := Scalar.indexCast arg19
  ![v44.toNat]

def k0_chk5 (arg19 : BitVec 32) : Prop :=
  (∀ a, (k0_off19 arg19) a + S1.size a ≤ S5.size a)
theorem k0_off19_inb : ∀ (arg19 : BitVec 32) (k0_hw5 : k0_chk5 arg19), ∀ a, (k0_off19 arg19) a + S1.size a ≤ S5.size a := fun arg19 k0_hw5 => k0_hw5

def k0_mult2 (arg20 : BitVec 32) : BitVec 32 :=
  let c512_i32_37 : BitVec 32 := 512#32
  let v58 : BitVec 32 := Scalar.muli arg20 c512_i32_37
  v58
def k0_mult3 (arg21 : BitVec 32) : BitVec 32 :=
  let c512_i32_38 : BitVec 32 := 512#32
  let v60 : BitVec 32 := Scalar.muli arg21 c512_i32_38
  let c0_i32_39 : BitVec 32 := 0#32
  let v61 : BitVec 32 := Scalar.addi v60 c0_i32_39
  v61
def k0_off20 (arg20 : BitVec 32) : Fin 2 → Nat :=
  let c512_i32_37 : BitVec 32 := 512#32
  let v58 : BitVec 32 := Scalar.muli arg20 c512_i32_37
  let v59 : BitVec 32 := v58
  let v63 : Index := Scalar.indexCast v59
  let c0_40 : Index := 0#32
  ![v63.toNat, 0]

def k0_chk3 (arg19 : BitVec 32) (arg20 : BitVec 32) : Prop :=
  (∀ (k0_h1 : k0_cond1 arg20 = 1#1), ∀ a, (k0_off5 arg19) a + S1x460.size a ≤ S5x460.size a) ∧
  (∀ (k0_h1 : k0_cond1 arg20 = 1#1), ∀ a, (k0_off6 arg19) a + S1.size a ≤ S5.size a) ∧
  (512 ∣ (k0_mult2 arg20).toNat) ∧
  (∀ a, (k0_off20 arg20) a + S512x512.size a ≤ S6144x512.size a)
theorem k0_off5_inb : ∀ (arg19 : BitVec 32) (arg20 : BitVec 32) (k0_hw3 : k0_chk3 arg19 arg20), ∀ (k0_h1 : k0_cond1 arg20 = 1#1), ∀ a, (k0_off5 arg19) a + S1x460.size a ≤ S5x460.size a := fun arg19 arg20 k0_hw3 k0_h1 => k0_hw3.1 k0_h1
theorem k0_off6_inb : ∀ (arg19 : BitVec 32) (arg20 : BitVec 32) (k0_hw3 : k0_chk3 arg19 arg20), ∀ (k0_h1 : k0_cond1 arg20 = 1#1), ∀ a, (k0_off6 arg19) a + S1.size a ≤ S5.size a := fun arg19 arg20 k0_hw3 k0_h1 => k0_hw3.2.1 k0_h1
theorem k0_mult2_dvd : ∀ (arg19 : BitVec 32) (arg20 : BitVec 32) (k0_hw3 : k0_chk3 arg19 arg20), 512 ∣ (k0_mult2 arg20).toNat := fun arg19 arg20 k0_hw3 => k0_hw3.2.2.1
theorem k0_off20_inb : ∀ (arg19 : BitVec 32) (arg20 : BitVec 32) (k0_hw3 : k0_chk3 arg19 arg20), ∀ a, (k0_off20 arg20) a + S512x512.size a ≤ S6144x512.size a := fun arg19 arg20 k0_hw3 => k0_hw3.2.2.2

def k0_off21 (arg21 : BitVec 32) (c0_i32_39 : BitVec 32) : Fin 2 → Nat :=
  let c512_i32_38 : BitVec 32 := 512#32
  let v60 : BitVec 32 := Scalar.muli arg21 c512_i32_38
  let v61 : BitVec 32 := Scalar.addi v60 c0_i32_39
  let v62 : BitVec 32 := v61
  let v65 : Index := Scalar.indexCast v62
  let c0_41 : Index := 0#32
  ![v65.toNat, 0]
def k0_off22 (k0_t2 : Fin k0_t2_loop.trips) : Fin 3 → Nat :=
  let c0_i32_23 : BitVec 32 := 0#32
  let c1_i32_24 : BitVec 32 := 1#32
  let arg18 : BitVec 32 := Scf.iv c0_i32_23 c1_i32_24 k0_t2
  let c12_i32_28 : BitVec 32 := 12#32
  let v28 : BitVec 32 := Scalar.remsi arg18 c12_i32_28
  let v68 : Index := Scalar.indexCast v28
  let c0_43 : Index := 0#32
  let c0_44 : Index := 0#32
  ![v68.toNat, 0, 0]
def k0_off23 (k0_t2 : Fin k0_t2_loop.trips) : Fin 3 → Nat :=
  let c0_i32_23 : BitVec 32 := 0#32
  let c1_i32_24 : BitVec 32 := 1#32
  let arg18 : BitVec 32 := Scf.iv c0_i32_23 c1_i32_24 k0_t2
  let c8_i32_29 : BitVec 32 := 8#32
  let v29 : BitVec 32 := Scalar.remsi arg18 c8_i32_29
  let v76 : Index := Scalar.indexCast v29
  let c0_45 : Index := 0#32
  let c0_46 : Index := 0#32
  ![v76.toNat, 0, 0]
def k0_off24 (k0_t2 : Fin k0_t2_loop.trips) : Fin 3 → Nat :=
  let c0_i32_23 : BitVec 32 := 0#32
  let c1_i32_24 : BitVec 32 := 1#32
  let arg18 : BitVec 32 := Scf.iv c0_i32_23 c1_i32_24 k0_t2
  let c8_i32_29 : BitVec 32 := 8#32
  let v29 : BitVec 32 := Scalar.remsi arg18 c8_i32_29
  let v81 : Index := Scalar.indexCast v29
  let c0_47 : Index := 0#32
  let c0_48 : Index := 0#32
  ![v81.toNat, 0, 0]
def k0_mult4 (arg21 : BitVec 32) : BitVec 32 :=
  let c512_i32_49 : BitVec 32 := 512#32
  let v85 : BitVec 32 := Scalar.muli arg21 c512_i32_49
  let c256_i32 : BitVec 32 := 256#32
  let v86 : BitVec 32 := Scalar.addi v85 c256_i32
  v86
def k0_off25 (k0_t2 : Fin k0_t2_loop.trips) : Fin 3 → Nat :=
  let c0_i32_23 : BitVec 32 := 0#32
  let c1_i32_24 : BitVec 32 := 1#32
  let arg18 : BitVec 32 := Scf.iv c0_i32_23 c1_i32_24 k0_t2
  let c12_i32_28 : BitVec 32 := 12#32
  let v28 : BitVec 32 := Scalar.remsi arg18 c12_i32_28
  let v93 : Index := Scalar.indexCast v28
  let c0_53 : Index := 0#32
  let c256 : Index := 256#32
  ![v93.toNat, 0, 256]
def k0_off26 (k0_t2 : Fin k0_t2_loop.trips) : Fin 3 → Nat :=
  let c0_i32_23 : BitVec 32 := 0#32
  let c1_i32_24 : BitVec 32 := 1#32
  let arg18 : BitVec 32 := Scf.iv c0_i32_23 c1_i32_24 k0_t2
  let c8_i32_29 : BitVec 32 := 8#32
  let v29 : BitVec 32 := Scalar.remsi arg18 c8_i32_29
  let v101 : Index := Scalar.indexCast v29
  let c0_54 : Index := 0#32
  let c256_55 : Index := 256#32
  ![v101.toNat, 0, 256]
def k0_off27 (k0_t2 : Fin k0_t2_loop.trips) : Fin 3 → Nat :=
  let c0_i32_23 : BitVec 32 := 0#32
  let c1_i32_24 : BitVec 32 := 1#32
  let arg18 : BitVec 32 := Scf.iv c0_i32_23 c1_i32_24 k0_t2
  let c8_i32_29 : BitVec 32 := 8#32
  let v29 : BitVec 32 := Scalar.remsi arg18 c8_i32_29
  let v106 : Index := Scalar.indexCast v29
  let c256_56 : Index := 256#32
  let c0_57 : Index := 0#32
  ![v106.toNat, 256, 0]
def k0_cond6 (k0_t2 : Fin k0_t2_loop.trips) : BitVec 1 :=
  let c0_i32_23 : BitVec 32 := 0#32
  let c1_i32_24 : BitVec 32 := 1#32
  let arg18 : BitVec 32 := Scf.iv c0_i32_23 c1_i32_24 k0_t2
  let c12_i32_58 : BitVec 32 := 12#32
  let v110 : BitVec 32 := Scalar.addi arg18 c12_i32_58
  let c390_i32_59 : BitVec 32 := 390#32
  let v111 : BitVec 1 := Scalar.cmpi .slt v110 c390_i32_59
  let v112 : BitVec 32 := Scalar.extui v111
  let c0_i32_60 : BitVec 32 := 0#32
  let v113 : BitVec 1 := Scalar.cmpi .ne v112 c0_i32_60
  v113

def k0_off28 (k0_t2 : Fin k0_t2_loop.trips) : Fin 1 → Nat :=
  let c0_i32_23 : BitVec 32 := 0#32
  let c1_i32_24 : BitVec 32 := 1#32
  let arg18 : BitVec 32 := Scf.iv c0_i32_23 c1_i32_24 k0_t2
  let c12_i32_28 : BitVec 32 := 12#32
  let v28 : BitVec 32 := Scalar.remsi arg18 c12_i32_28
  ![v28.toNat]
def k0_off29 (k0_t2 : Fin k0_t2_loop.trips) : Fin 3 → Nat :=
  let c0_i32_23 : BitVec 32 := 0#32
  let c1_i32_24 : BitVec 32 := 1#32
  let arg18 : BitVec 32 := Scf.iv c0_i32_23 c1_i32_24 k0_t2
  let c12_i32_28 : BitVec 32 := 12#32
  let v28 : BitVec 32 := Scalar.remsi arg18 c12_i32_28
  let c0_i32_87 : BitVec 32 := 0#32
  let c0_i32_88 : BitVec 32 := 0#32
  ![v28.toNat, 0, 0]
def k0_off30 (arg22 : BitVec 32) (arg23 : BitVec 32) (arg24 : BitVec 32) : Fin 3 → Nat :=
  let c512_i32_85 : BitVec 32 := 512#32
  let v156 : BitVec 32 := Scalar.muli arg23 c512_i32_85
  let c512_i32_86 : BitVec 32 := 512#32
  let v157 : BitVec 32 := Scalar.muli arg24 c512_i32_86
  ![arg22.toNat, v156.toNat, v157.toNat]

def k0_chk6 (k0_t2 : Fin k0_t2_loop.trips) (arg22 : BitVec 32) (arg23 : BitVec 32) (arg24 : BitVec 32) : Prop :=
  (∀ (k0_h6 : k0_cond6 k0_t2 = 1#1), ∀ a, (k0_off30 arg22 arg23 arg24) a + S1x512x512.size a ≤ S5x6144x6144.size a)
theorem k0_off30_inb : ∀ (k0_t2 : Fin k0_t2_loop.trips) (arg22 : BitVec 32) (arg23 : BitVec 32) (arg24 : BitVec 32) (k0_hw6 : k0_chk6 k0_t2 arg22 arg23 arg24), ∀ (k0_h6 : k0_cond6 k0_t2 = 1#1), ∀ a, (k0_off30 arg22 arg23 arg24) a + S1x512x512.size a ≤ S5x6144x6144.size a := fun k0_t2 arg22 arg23 arg24 k0_hw6 k0_h6 => k0_hw6 k0_h6

def k0_off31 (k0_t2 : Fin k0_t2_loop.trips) : Fin 1 → Nat :=
  let c0_i32_23 : BitVec 32 := 0#32
  let c1_i32_24 : BitVec 32 := 1#32
  let arg18 : BitVec 32 := Scf.iv c0_i32_23 c1_i32_24 k0_t2
  let c8_i32_29 : BitVec 32 := 8#32
  let v29 : BitVec 32 := Scalar.remsi arg18 c8_i32_29
  ![v29.toNat]
def k0_off32 (arg19 : BitVec 32) (arg20 : BitVec 32) (arg21 : BitVec 32) : Fin 3 → Nat :=
  let c512_i32_61 : BitVec 32 := 512#32
  let v114 : BitVec 32 := Scalar.muli arg20 c512_i32_61
  let c512_i32_62 : BitVec 32 := 512#32
  let v115 : BitVec 32 := Scalar.muli arg21 c512_i32_62
  ![arg19.toNat, v114.toNat, v115.toNat]
def k0_off33 (k0_t2 : Fin k0_t2_loop.trips) : Fin 3 → Nat :=
  let c0_i32_23 : BitVec 32 := 0#32
  let c1_i32_24 : BitVec 32 := 1#32
  let arg18 : BitVec 32 := Scf.iv c0_i32_23 c1_i32_24 k0_t2
  let c8_i32_29 : BitVec 32 := 8#32
  let v29 : BitVec 32 := Scalar.remsi arg18 c8_i32_29
  let c0_i32_63 : BitVec 32 := 0#32
  let c0_i32_64 : BitVec 32 := 0#32
  ![v29.toNat, 0, 0]
def k0_off34 (k0_t2 : Fin k0_t2_loop.trips) : Fin 1 → Nat :=
  let c0_i32_23 : BitVec 32 := 0#32
  let c1_i32_24 : BitVec 32 := 1#32
  let arg18 : BitVec 32 := Scf.iv c0_i32_23 c1_i32_24 k0_t2
  let c8_i32_29 : BitVec 32 := 8#32
  let v29 : BitVec 32 := Scalar.remsi arg18 c8_i32_29
  ![v29.toNat]
def k0_off35 (arg19 : BitVec 32) (arg20 : BitVec 32) (arg21 : BitVec 32) : Fin 3 → Nat :=
  let c512_i32_85 : BitVec 32 := 512#32
  let v156 : BitVec 32 := Scalar.muli arg21 c512_i32_85
  let c512_i32_86 : BitVec 32 := 512#32
  let v157 : BitVec 32 := Scalar.muli arg20 c512_i32_86
  ![arg19.toNat, v156.toNat, v157.toNat]
def k0_cond7 (arg20 : BitVec 32) (arg21 : BitVec 32) : BitVec 1 :=
  let v122 : BitVec 1 := Scalar.cmpi .ne arg20 arg21
  let v123 : BitVec 32 := Scalar.extui v122
  let c0_i32_65 : BitVec 32 := 0#32
  let v124 : BitVec 1 := Scalar.cmpi .ne v123 c0_i32_65
  v124

def k0_chk2 (arg19 : BitVec 32) (arg20 : BitVec 32) (arg21 : BitVec 32) : Prop :=
  (∀ (k0_h1 : k0_cond1 arg20 = 1#1), ∀ (k0_h2 : k0_cond2 arg21 = 1#1), ∀ a, (k0_off4 arg19) a + S1x460x6144.size a ≤ S5x460x6144.size a) ∧
  (∀ (k0_h1 : k0_cond1 arg20 = 1#1), ∀ (k0_h2 : k0_cond2 arg21 = 1#1), ∀ (hinb : ∀ a, (k0_off4 arg19) a + S1x460x6144.size a ≤ S5x460x6144.size a), (Rect.unit (s := S5x460x6144) (k0_off4 arg19) S1x460x6144.size hinb).WholeWords (EltTy.packing .fp8e4m3)) ∧
  (∀ k0_t3 : Fin k0_t3_loop.trips, ∀ (k0_h1 : k0_cond1 arg20 = 1#1), 128 ∣ (k0_mult1 arg21 k0_t3).toNat) ∧
  (∀ k0_t3 : Fin k0_t3_loop.trips, ∀ (k0_h1 : k0_cond1 arg20 = 1#1), ∀ a, (k0_off7 arg21 k0_t3) a + S460x128.size a ≤ S460x6144.size a) ∧
  (∀ k0_t3 : Fin k0_t3_loop.trips, ∀ (k0_h1 : k0_cond1 arg20 = 1#1), ∀ a, (k0_off8 arg21 k0_t3) a + S128x512.size a ≤ S6144x512.size a) ∧
  (∀ k0_t3 : Fin k0_t3_loop.trips, ∀ (k0_h1 : k0_cond1 arg20 = 1#1), ∀ (hinb : ∀ a, (k0_off8 arg21 k0_t3) a + S128x512.size a ≤ S6144x512.size a), (Rect.unit (s := S6144x512) (k0_off8 arg21 k0_t3) S128x512.size hinb).PackedRows (EltTy.packing .bf16)) ∧
  (∀ (k0_h1 : k0_cond1 arg20 = 1#1), ∀ (k0_h3 : k0_cond3 arg19 arg21 = 1#1), ∀ a, (k0_off9 arg19) a + S1x460x6144.size a ≤ S5x460x6144.size a) ∧
  (∀ (k0_h1 : k0_cond1 arg20 = 1#1), ∀ (k0_h3 : k0_cond3 arg19 arg21 = 1#1), ∀ (hinb : ∀ a, (k0_off9 arg19) a + S1x460x6144.size a ≤ S5x460x6144.size a), (Rect.unit (s := S5x460x6144) (k0_off9 arg19) S1x460x6144.size hinb).WholeWords (EltTy.packing .fp8e4m3)) ∧
  (∀ a, (k0_off18 arg19 arg20 arg21) a + S1x512x512.size a ≤ S5x6144x6144.size a) ∧
  (256 ∣ (k0_mult3 arg21).toNat) ∧
  (∀ (r : Fin 2), ∀ a, (k0_off21 arg21 (BitVec.ofNat 32 (256 * r.val))) a + S256x512.size a ≤ S6144x512.size a) ∧
  (256 ∣ (k0_mult4 arg21).toNat) ∧
  (∀ a, (k0_off32 arg19 arg20 arg21) a + S1x512x512.size a ≤ S5x6144x6144.size a) ∧
  (∀ (k0_h7 : k0_cond7 arg20 arg21 = 1#1), ∀ a, (k0_off35 arg19 arg20 arg21) a + S1x512x512.size a ≤ S5x6144x6144.size a)
theorem k0_off4_inb : ∀ (arg19 : BitVec 32) (arg20 : BitVec 32) (arg21 : BitVec 32) (k0_hw2 : k0_chk2 arg19 arg20 arg21), ∀ (k0_h1 : k0_cond1 arg20 = 1#1), ∀ (k0_h2 : k0_cond2 arg21 = 1#1), ∀ a, (k0_off4 arg19) a + S1x460x6144.size a ≤ S5x460x6144.size a := fun arg19 arg20 arg21 k0_hw2 k0_h1 k0_h2 => k0_hw2.1 k0_h1 k0_h2
theorem k0_off4_wordsfp8e4m3 : ∀ (arg19 : BitVec 32) (arg20 : BitVec 32) (arg21 : BitVec 32) (k0_hw2 : k0_chk2 arg19 arg20 arg21), ∀ (k0_h1 : k0_cond1 arg20 = 1#1), ∀ (k0_h2 : k0_cond2 arg21 = 1#1), (Rect.unit (s := S5x460x6144) (k0_off4 arg19) S1x460x6144.size (k0_off4_inb arg19 arg20 arg21 k0_hw2 k0_h1 k0_h2)).WholeWords (EltTy.packing .fp8e4m3) := fun arg19 arg20 arg21 k0_hw2 k0_h1 k0_h2 => k0_hw2.2.1 k0_h1 k0_h2 (k0_off4_inb arg19 arg20 arg21 k0_hw2 k0_h1 k0_h2)
theorem k0_mult1_dvd : ∀ (arg19 : BitVec 32) (arg20 : BitVec 32) (arg21 : BitVec 32) (k0_hw2 : k0_chk2 arg19 arg20 arg21) (k0_t3 : Fin k0_t3_loop.trips), ∀ (k0_h1 : k0_cond1 arg20 = 1#1), 128 ∣ (k0_mult1 arg21 k0_t3).toNat := fun arg19 arg20 arg21 k0_hw2 k0_t3 k0_h1 => k0_hw2.2.2.1 k0_t3 k0_h1
theorem k0_off7_inb : ∀ (arg19 : BitVec 32) (arg20 : BitVec 32) (arg21 : BitVec 32) (k0_hw2 : k0_chk2 arg19 arg20 arg21) (k0_t3 : Fin k0_t3_loop.trips), ∀ (k0_h1 : k0_cond1 arg20 = 1#1), ∀ a, (k0_off7 arg21 k0_t3) a + S460x128.size a ≤ S460x6144.size a := fun arg19 arg20 arg21 k0_hw2 k0_t3 k0_h1 => k0_hw2.2.2.2.1 k0_t3 k0_h1
theorem k0_off8_inb : ∀ (arg19 : BitVec 32) (arg20 : BitVec 32) (arg21 : BitVec 32) (k0_hw2 : k0_chk2 arg19 arg20 arg21) (k0_t3 : Fin k0_t3_loop.trips), ∀ (k0_h1 : k0_cond1 arg20 = 1#1), ∀ a, (k0_off8 arg21 k0_t3) a + S128x512.size a ≤ S6144x512.size a := fun arg19 arg20 arg21 k0_hw2 k0_t3 k0_h1 => k0_hw2.2.2.2.2.1 k0_t3 k0_h1
theorem k0_off8_packedbf16 : ∀ (arg19 : BitVec 32) (arg20 : BitVec 32) (arg21 : BitVec 32) (k0_hw2 : k0_chk2 arg19 arg20 arg21) (k0_t3 : Fin k0_t3_loop.trips), ∀ (k0_h1 : k0_cond1 arg20 = 1#1), (Rect.unit (s := S6144x512) (k0_off8 arg21 k0_t3) S128x512.size (k0_off8_inb arg19 arg20 arg21 k0_hw2 k0_t3 k0_h1)).PackedRows (EltTy.packing .bf16) := fun arg19 arg20 arg21 k0_hw2 k0_t3 k0_h1 => k0_hw2.2.2.2.2.2.1 k0_t3 k0_h1 (k0_off8_inb arg19 arg20 arg21 k0_hw2 k0_t3 k0_h1)
theorem k0_off9_inb : ∀ (arg19 : BitVec 32) (arg20 : BitVec 32) (arg21 : BitVec 32) (k0_hw2 : k0_chk2 arg19 arg20 arg21), ∀ (k0_h1 : k0_cond1 arg20 = 1#1), ∀ (k0_h3 : k0_cond3 arg19 arg21 = 1#1), ∀ a, (k0_off9 arg19) a + S1x460x6144.size a ≤ S5x460x6144.size a := fun arg19 arg20 arg21 k0_hw2 k0_h1 k0_h3 => k0_hw2.2.2.2.2.2.2.1 k0_h1 k0_h3
theorem k0_off9_wordsfp8e4m3 : ∀ (arg19 : BitVec 32) (arg20 : BitVec 32) (arg21 : BitVec 32) (k0_hw2 : k0_chk2 arg19 arg20 arg21), ∀ (k0_h1 : k0_cond1 arg20 = 1#1), ∀ (k0_h3 : k0_cond3 arg19 arg21 = 1#1), (Rect.unit (s := S5x460x6144) (k0_off9 arg19) S1x460x6144.size (k0_off9_inb arg19 arg20 arg21 k0_hw2 k0_h1 k0_h3)).WholeWords (EltTy.packing .fp8e4m3) := fun arg19 arg20 arg21 k0_hw2 k0_h1 k0_h3 => k0_hw2.2.2.2.2.2.2.2.1 k0_h1 k0_h3 (k0_off9_inb arg19 arg20 arg21 k0_hw2 k0_h1 k0_h3)
theorem k0_off18_inb : ∀ (arg19 : BitVec 32) (arg20 : BitVec 32) (arg21 : BitVec 32) (k0_hw2 : k0_chk2 arg19 arg20 arg21), ∀ a, (k0_off18 arg19 arg20 arg21) a + S1x512x512.size a ≤ S5x6144x6144.size a := fun arg19 arg20 arg21 k0_hw2 => k0_hw2.2.2.2.2.2.2.2.2.1
theorem k0_mult3_dvd : ∀ (arg19 : BitVec 32) (arg20 : BitVec 32) (arg21 : BitVec 32) (k0_hw2 : k0_chk2 arg19 arg20 arg21), 256 ∣ (k0_mult3 arg21).toNat := fun arg19 arg20 arg21 k0_hw2 => k0_hw2.2.2.2.2.2.2.2.2.2.1
theorem k0_off21_inb : ∀ (arg19 : BitVec 32) (arg20 : BitVec 32) (arg21 : BitVec 32) (k0_hw2 : k0_chk2 arg19 arg20 arg21), ∀ (r : Fin 2), ∀ a, (k0_off21 arg21 (BitVec.ofNat 32 (256 * r.val))) a + S256x512.size a ≤ S6144x512.size a := fun arg19 arg20 arg21 k0_hw2 r => k0_hw2.2.2.2.2.2.2.2.2.2.2.1 r
theorem k0_mult4_dvd : ∀ (arg19 : BitVec 32) (arg20 : BitVec 32) (arg21 : BitVec 32) (k0_hw2 : k0_chk2 arg19 arg20 arg21), 256 ∣ (k0_mult4 arg21).toNat := fun arg19 arg20 arg21 k0_hw2 => k0_hw2.2.2.2.2.2.2.2.2.2.2.2.1
theorem k0_off32_inb : ∀ (arg19 : BitVec 32) (arg20 : BitVec 32) (arg21 : BitVec 32) (k0_hw2 : k0_chk2 arg19 arg20 arg21), ∀ a, (k0_off32 arg19 arg20 arg21) a + S1x512x512.size a ≤ S5x6144x6144.size a := fun arg19 arg20 arg21 k0_hw2 => k0_hw2.2.2.2.2.2.2.2.2.2.2.2.2.1
theorem k0_off35_inb : ∀ (arg19 : BitVec 32) (arg20 : BitVec 32) (arg21 : BitVec 32) (k0_hw2 : k0_chk2 arg19 arg20 arg21), ∀ (k0_h7 : k0_cond7 arg20 arg21 = 1#1), ∀ a, (k0_off35 arg19 arg20 arg21) a + S1x512x512.size a ≤ S5x6144x6144.size a := fun arg19 arg20 arg21 k0_hw2 k0_h7 => k0_hw2.2.2.2.2.2.2.2.2.2.2.2.2.2 k0_h7

def k0_off36 (k0_t2 : Fin k0_t2_loop.trips) : Fin 3 → Nat :=
  let c0_i32_23 : BitVec 32 := 0#32
  let c1_i32_24 : BitVec 32 := 1#32
  let arg18 : BitVec 32 := Scf.iv c0_i32_23 c1_i32_24 k0_t2
  let c8_i32_29 : BitVec 32 := 8#32
  let v29 : BitVec 32 := Scalar.remsi arg18 c8_i32_29
  let c0_i32_87 : BitVec 32 := 0#32
  let c0_i32_88 : BitVec 32 := 0#32
  ![v29.toNat, 0, 0]
@[reducible] def k0_t4_loop : Scf.Loop 32 :=
  let c382_i32 : BitVec 32 := 382#32
  let c8_i32 : BitVec 32 := 8#32
  let v26 : BitVec 32 := Scalar.addi c382_i32 c8_i32
  let c1_i32_26 : BitVec 32 := 1#32
  ⟨c382_i32, v26, c1_i32_26⟩
def k0_off37 (k0_t4 : Fin k0_t4_loop.trips) : Fin 1 → Nat :=
  let c382_i32 : BitVec 32 := 382#32
  let c1_i32_26 : BitVec 32 := 1#32
  let arg18 : BitVec 32 := Scf.iv c382_i32 c1_i32_26 k0_t4
  let c8_i32_28 : BitVec 32 := 8#32
  let v28 : BitVec 32 := Scalar.remsi arg18 c8_i32_28
  ![v28.toNat]
def k0_off38 (arg19 : BitVec 32) (arg20 : BitVec 32) (arg21 : BitVec 32) : Fin 3 → Nat :=
  let c512_i32 : BitVec 32 := 512#32
  let v29 : BitVec 32 := Scalar.muli arg20 c512_i32
  let c512_i32_29 : BitVec 32 := 512#32
  let v30 : BitVec 32 := Scalar.muli arg21 c512_i32_29
  ![arg19.toNat, v29.toNat, v30.toNat]

def k0_off39 (k0_t4 : Fin k0_t4_loop.trips) : Fin 3 → Nat :=
  let c382_i32 : BitVec 32 := 382#32
  let c1_i32_26 : BitVec 32 := 1#32
  let arg18 : BitVec 32 := Scf.iv c382_i32 c1_i32_26 k0_t4
  let c8_i32_28 : BitVec 32 := 8#32
  let v28 : BitVec 32 := Scalar.remsi arg18 c8_i32_28
  let c0_i32_30 : BitVec 32 := 0#32
  let c0_i32_31 : BitVec 32 := 0#32
  ![v28.toNat, 0, 0]
def k0_off40 (k0_t4 : Fin k0_t4_loop.trips) : Fin 1 → Nat :=
  let c382_i32 : BitVec 32 := 382#32
  let c1_i32_26 : BitVec 32 := 1#32
  let arg18 : BitVec 32 := Scf.iv c382_i32 c1_i32_26 k0_t4
  let c8_i32_28 : BitVec 32 := 8#32
  let v28 : BitVec 32 := Scalar.remsi arg18 c8_i32_28
  ![v28.toNat]
def k0_off41 (arg19 : BitVec 32) (arg20 : BitVec 32) (arg21 : BitVec 32) : Fin 3 → Nat :=
  let c512_i32_39 : BitVec 32 := 512#32
  let v49 : BitVec 32 := Scalar.muli arg21 c512_i32_39
  let c512_i32_40 : BitVec 32 := 512#32
  let v50 : BitVec 32 := Scalar.muli arg20 c512_i32_40
  ![arg19.toNat, v49.toNat, v50.toNat]
def k0_cond8 (arg20 : BitVec 32) (arg21 : BitVec 32) : BitVec 1 :=
  let v37 : BitVec 1 := Scalar.cmpi .ne arg20 arg21
  let v38 : BitVec 32 := Scalar.extui v37
  let c0_i32_32 : BitVec 32 := 0#32
  let v39 : BitVec 1 := Scalar.cmpi .ne v38 c0_i32_32
  v39

def k0_chk7 (arg19 : BitVec 32) (arg20 : BitVec 32) (arg21 : BitVec 32) : Prop :=
  (∀ a, (k0_off38 arg19 arg20 arg21) a + S1x512x512.size a ≤ S5x6144x6144.size a) ∧
  (∀ (k0_h8 : k0_cond8 arg20 arg21 = 1#1), ∀ a, (k0_off41 arg19 arg20 arg21) a + S1x512x512.size a ≤ S5x6144x6144.size a)
theorem k0_off38_inb : ∀ (arg19 : BitVec 32) (arg20 : BitVec 32) (arg21 : BitVec 32) (k0_hw7 : k0_chk7 arg19 arg20 arg21), ∀ a, (k0_off38 arg19 arg20 arg21) a + S1x512x512.size a ≤ S5x6144x6144.size a := fun arg19 arg20 arg21 k0_hw7 => k0_hw7.1
theorem k0_off41_inb : ∀ (arg19 : BitVec 32) (arg20 : BitVec 32) (arg21 : BitVec 32) (k0_hw7 : k0_chk7 arg19 arg20 arg21), ∀ (k0_h8 : k0_cond8 arg20 arg21 = 1#1), ∀ a, (k0_off41 arg19 arg20 arg21) a + S1x512x512.size a ≤ S5x6144x6144.size a := fun arg19 arg20 arg21 k0_hw7 k0_h8 => k0_hw7.2 k0_h8

def k0_off42 (k0_t4 : Fin k0_t4_loop.trips) : Fin 3 → Nat :=
  let c382_i32 : BitVec 32 := 382#32
  let c1_i32_26 : BitVec 32 := 1#32
  let arg18 : BitVec 32 := Scf.iv c382_i32 c1_i32_26 k0_t4
  let c8_i32_28 : BitVec 32 := 8#32
  let v28 : BitVec 32 := Scalar.remsi arg18 c8_i32_28
  let c0_i32_41 : BitVec 32 := 0#32
  let c0_i32_42 : BitVec 32 := 0#32
  ![v28.toNat, 0, 0]
abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S5 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S5 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S5x460x6144 : Shape := ⟨3, ![5, 460, 6144]⟩
abbrev S5x460 : Shape := ⟨2, ![5, 460]⟩
abbrev S5 : Shape := ⟨1, ![5]⟩
abbrev S5x6144x6144 : Shape := ⟨3, ![5, 6144, 6144]⟩
abbrev S5x460x1 : Shape := ⟨3, ![5, 460, 1]⟩
abbrev S460 : Shape := ⟨1, ![460]⟩
abbrev S1x460 : Shape := ⟨2, ![1, 460]⟩
abbrev S5x1 : Shape := ⟨2, ![5, 1]⟩
abbrev S_ : Shape := ⟨0, ![]⟩
abbrev S5x1x1 : Shape := ⟨3, ![5, 1, 1]⟩

abbrev nBuf : Space → Nat
  | .hbm => 36
  | .vmem => 2
  | .smem => 0
  | _ => 0

abbrev bufTy : (tb : Table) → Fin (tcTables nBuf tb) → BufTy
  | .hbm, ⟨0, _⟩ => ⟨S5x460x6144, .fp8e4m3⟩
  | .hbm, ⟨1, _⟩ => ⟨S5x460, .f32⟩
  | .hbm, ⟨2, _⟩ => ⟨S5, .i32⟩
  | .hbm, ⟨3, _⟩ => ⟨S5x6144x6144, .f32⟩
  | .hbm, ⟨4, _⟩ => ⟨S5, .i32⟩
  | .hbm, ⟨5, _⟩ => ⟨S5x460x6144, .bf16⟩
  | .hbm, ⟨6, _⟩ => ⟨S5x460, .bf16⟩
  | .hbm, ⟨7, _⟩ => ⟨S5x460x1, .bf16⟩
  | .hbm, ⟨8, _⟩ => ⟨S5x460x6144, .bf16⟩
  | .hbm, ⟨9, _⟩ => ⟨S5x460x6144, .bf16⟩
  | .hbm, ⟨10, _⟩ => ⟨S460, .i32⟩
  | .hbm, ⟨11, _⟩ => ⟨S1x460, .i32⟩
  | .hbm, ⟨12, _⟩ => ⟨S5x1, .i32⟩
  | .hbm, ⟨13, _⟩ => ⟨S5x460, .i32⟩
  | .hbm, ⟨14, _⟩ => ⟨S5x460, .i32⟩
  | .hbm, ⟨15, _⟩ => ⟨S5x460, .i1⟩
  | .hbm, ⟨16, _⟩ => ⟨S5x460x1, .i1⟩
  | .hbm, ⟨17, _⟩ => ⟨S_, .bf16⟩
  | .hbm, ⟨18, _⟩ => ⟨S5x460x6144, .i1⟩
  | .hbm, ⟨19, _⟩ => ⟨S5x460x6144, .bf16⟩
  | .hbm, ⟨20, _⟩ => ⟨S5x460x6144, .bf16⟩
  | .hbm, ⟨21, _⟩ => ⟨S5x6144x6144, .f32⟩
  | .hbm, ⟨22, _⟩ => ⟨S5, .i32⟩
  | .hbm, ⟨23, _⟩ => ⟨S5, .f32⟩
  | .hbm, ⟨24, _⟩ => ⟨S5, .f32⟩
  | .hbm, ⟨25, _⟩ => ⟨S5, .f32⟩
  | .hbm, ⟨26, _⟩ => ⟨S5x1x1, .f32⟩
  | .hbm, ⟨27, _⟩ => ⟨S_, .f32⟩
  | .hbm, ⟨28, _⟩ => ⟨S5, .f32⟩
  | .hbm, ⟨29, _⟩ => ⟨S5, .f32⟩
  | .hbm, ⟨30, _⟩ => ⟨S5x1x1, .f32⟩
  | .hbm, ⟨31, _⟩ => ⟨S5x6144x6144, .f32⟩
  | .hbm, ⟨32, _⟩ => ⟨S5x6144x6144, .f32⟩
  | .hbm, ⟨33, _⟩ => ⟨S5x6144x6144, .f32⟩
  | .hbm, ⟨34, _⟩ => ⟨S5x6144x6144, .f32⟩
  | .hbm, ⟨35, _⟩ => ⟨S5x6144x6144, .f32⟩
  | .local _ .vmem, ⟨0, _⟩ => ⟨S5x460x6144, .fp8e4m3⟩
  | .local _ .vmem, ⟨1, _⟩ => ⟨S5x460x6144, .bf16⟩
  | _, _ => ⟨S5x460x6144, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S5x460x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x460x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Tile.lean ====
/- The order in which the kernel visits the tiles on and above the block diagonal, as natural numbers, and the
   step at which a given tile is visited. Nothing here mentions the program. -/
module

public import Mathlib.Data.Fin.Basic
public import Mathlib.Logic.Function.Iterate

@[expose] public section

namespace Cert.Tile

/-- The tile after the tile `(e, i, j)`: the next column block of the row block, else the diagonal tile of the next
    row block, else the first tile of the next expert. -/
def nx (t : ℕ × ℕ × ℕ) : ℕ × ℕ × ℕ :=
  if t.2.2 + 1 = 12 then
    if t.2.1 + 1 = 12 then (t.1 + 1, 0, 0) else (t.1, t.2.1 + 1, t.2.1 + 1)
  else (t.1, t.2.1, t.2.2 + 1)

/-- The tile of step `s`. -/
def tile : ℕ → ℕ × ℕ × ℕ
  | 0 => (0, 0, 0)
  | s + 1 => nx (tile s)

theorem tile_succ (s : ℕ) : tile (s + 1) = nx (tile s) := rfl

/-- The step of the tile `(e, i, j)`, for `i ≤ j`. -/
def stepOf (e i j : ℕ) : ℕ := 78 * e + i * (25 - i) / 2 + (j - i)

/-- The first `n` tiles, in a list. -/
def tilesFrom (t : ℕ × ℕ × ℕ) : ℕ → List (ℕ × ℕ × ℕ)
  | 0 => []
  | n + 1 => t :: tilesFrom (nx t) n

/-- What is decided of the tile `t` of step `s`. -/
def okAt (s : ℕ) (t : ℕ × ℕ × ℕ) : Bool :=
  decide (t.1 < 6 ∧ (s < 390 → t.1 < 5) ∧ t.2.1 ≤ t.2.2 ∧ t.2.2 < 12 ∧ stepOf t.1 t.2.1 t.2.2 = s)

def allOk (s : ℕ) : List (ℕ × ℕ × ℕ) → Bool
  | [] => true
  | t :: l => okAt s t && allOk (s + 1) l

theorem okAt_of_allOk : ∀ (n s : ℕ), allOk s (tilesFrom (tile s) n) = true → ∀ k, k < n → okAt (s + k) (tile (s + k)) = true := by
  intro n
  induction n with
  | zero => intro s _ k hk; omega
  | succ n ih =>
    intro s h k hk
    simp only [tilesFrom, allOk, Bool.and_eq_true] at h
    rcases k with _ | k
    · exact h.1
    · have := ih (s + 1) (by rw [tile_succ]; exact h.2) k (by omega)
      rw [show s + (k + 1) = s + 1 + k by omega]; exact this

theorem okAt_tile (s : ℕ) (hs : s < 402) : okAt s (tile s) = true := by
  have := okAt_of_allOk 402 0 (by decide +kernel) s hs
  rwa [Nat.zero_add] at this

theorem tile_facts (s : ℕ) (hs : s < 402) :
    (tile s).1 < 6 ∧ (s < 390 → (tile s).1 < 5) ∧ (tile s).2.1 ≤ (tile s).2.2 ∧ (tile s).2.2 < 12
      ∧ stepOf (tile s).1 (tile s).2.1 (tile s).2.2 = s := by
  have h := okAt_tile s hs
  simpa only [okAt, decide_eq_true_eq] using h

theorem tE_lt {s : ℕ} (hs : s < 390) : (tile s).1 < 5 := (tile_facts s (by omega)).2.1 hs
theorem tI_le {s : ℕ} (hs : s < 402) : (tile s).2.1 ≤ (tile s).2.2 := (tile_facts s hs).2.2.1
theorem tJ_lt {s : ℕ} (hs : s < 402) : (tile s).2.2 < 12 := (tile_facts s hs).2.2.2.1
theorem tI_lt {s : ℕ} (hs : s < 402) : (tile s).2.1 < 12 := lt_of_le_of_lt (tI_le hs) (tJ_lt hs)
theorem stepOf_tile {s : ℕ} (hs : s < 402) : stepOf (tile s).1 (tile s).2.1 (tile s).2.2 = s := (tile_facts s hs).2.2.2.2

/-- Different steps visit different tiles. -/
theorem tile_inj {s s' : ℕ} (hs : s < 402) (hs' : s' < 402) (h : tile s = tile s') : s = s' := by
  rw [← stepOf_tile hs, ← stepOf_tile hs', h]

theorem stepOf_lt (e i j : ℕ) (he : e < 5) (hij : i ≤ j) (hj : j < 12) : stepOf e i j < 390 := by
  have h : ∀ i : Fin 12, ∀ j : Fin 12, i.val ≤ j.val → i.val * (25 - i.val) / 2 + (j.val - i.val) < 78 := by decide
  have := h ⟨i, by omega⟩ ⟨j, hj⟩ hij
  simp only at this
  unfold stepOf; omega

/-- Every tile on or above the block diagonal is visited, at `stepOf`. -/
theorem tile_stepOf (e i j : ℕ) (he : e < 5) (hij : i ≤ j) (hj : j < 12) : tile (stepOf e i j) = (e, i, j) := by
  have h : ∀ e : Fin 5, ∀ i : Fin 12, ∀ j : Fin 12, i.val ≤ j.val →
      tile (stepOf e.val i.val j.val) = (e.val, i.val, j.val) := by decide +kernel
  exact h ⟨e, he⟩ ⟨i, by omega⟩ ⟨j, hj⟩ hij

/-! ## The expert, the row block and the column block of a step, as finite indices -/

/-- The expert of step `s`. -/
def tE (s : ℕ) : Fin 5 := Fin.ofNat 5 (tile s).1
/-- The row block of step `s`. -/
def tI (s : ℕ) : Fin 12 := Fin.ofNat 12 (tile s).2.1
/-- The column block of step `s`. -/
def tJ (s : ℕ) : Fin 12 := Fin.ofNat 12 (tile s).2.2

theorem tE_val {s : ℕ} (hs : s < 390) : (tE s).val = (tile s).1 := Nat.mod_eq_of_lt (tE_lt hs)
theorem tI_val {s : ℕ} (hs : s < 402) : (tI s).val = (tile s).2.1 := Nat.mod_eq_of_lt (tI_lt hs)
theorem tJ_val {s : ℕ} (hs : s < 402) : (tJ s).val = (tile s).2.2 := Nat.mod_eq_of_lt (tJ_lt hs)
theorem tI_le_tJ {s : ℕ} (hs : s < 402) : (tI s).val ≤ (tJ s).val := by rw [tI_val hs, tJ_val hs]; exact tI_le hs

/-- The step of a tile on or above the block diagonal, from its blocks. -/
def stepF (e : Fin 5) (i j : Fin 12) : ℕ := stepOf e.val i.val j.val
theorem stepF_lt (e : Fin 5) (i j : Fin 12) (h : i.val ≤ j.val) : stepF e i j < 390 := stepOf_lt _ _ _ e.isLt h j.isLt
theorem tE_stepF (e : Fin 5) (i j : Fin 12) (h : i.val ≤ j.val) : tE (stepF e i j) = e := by
  apply Fin.ext; rw [tE_val (stepF_lt e i j h)]; unfold stepF; rw [tile_stepOf _ _ _ e.isLt h j.isLt]
theorem tI_stepF (e : Fin 5) (i j : Fin 12) (h : i.val ≤ j.val) : tI (stepF e i j) = i := by
  apply Fin.ext; rw [tI_val (lt_trans (stepF_lt e i j h) (by omega))]; unfold stepF; rw [tile_stepOf _ _ _ e.isLt h j.isLt]
theorem tJ_stepF (e : Fin 5) (i j : Fin 12) (h : i.val ≤ j.val) : tJ (stepF e i j) = j := by
  apply Fin.ext; rw [tJ_val (lt_trans (stepF_lt e i j h) (by omega))]; unfold stepF; rw [tile_stepOf _ _ _ e.isLt h j.isLt]
theorem stepF_tile {s : ℕ} (hs : s < 390) : stepF (tE s) (tI s) (tJ s) = s := by
  unfold stepF; rw [tE_val hs, tI_val (by omega), tJ_val (by omega)]; exact stepOf_tile (by omega)

/-- Before the first column block of a row block the expert's preceding tiles are done: the tile before a tile that
    opens no row block is its left neighbour. -/
theorem tile_pred {s : ℕ} (hs : s < 401) : tile (s + 1) = nx (tile s) := rfl

end Cert.Tile
-- ==== Proof.KernelIdeal.Words.lean ====
/- The words the kernel's loops carry are the visiting order's numbers: what the printed conditions, side conditions
   and offsets say at those words, and the words of the next tile. -/
module

public import proofs.«01_k».proof.Proof.Gen.KernelIdeal
public import proofs.«01_k».proof.Proof.Tile

@[expose] public section

set_option maxRecDepth 16384

namespace Cert.KernelIdeal.Hand

open Cert.KernelIdeal Cert.KernelIdeal.Gen Cert.Tile
open Idealize.ShloMosaic

/-- The word of a number. -/
abbrev wd (n : ℕ) : BitVec 32 := BitVec.ofNat 32 n

/-! ## Conditions -/

theorem cond1_iff (i : Fin 12) : k0_cond1 (wd i.val) = 1#1 ↔ i.val = 0 := by revert i; decide
theorem cond2_iff (j : Fin 12) : k0_cond2 (wd j.val) = 1#1 ↔ j.val = 0 := by revert j; decide
theorem cond3_iff (e : Fin 5) (j : Fin 12) : k0_cond3 (wd e.val) (wd j.val) = 1#1 ↔ j.val = 11 ∧ e.val + 1 < 5 := by
  revert e j; decide
theorem cond5_iff (i j : Fin 12) : k0_cond5 (wd i.val) (wd j.val) = 1#1 ↔ i.val ≠ j.val := by revert i j; decide
theorem cond7_iff (i j : Fin 12) : k0_cond7 (wd i.val) (wd j.val) = 1#1 ↔ i.val ≠ j.val := by revert i j; decide
theorem cond8_iff (i j : Fin 12) : k0_cond8 (wd i.val) (wd j.val) = 1#1 ↔ i.val ≠ j.val := by revert i j; decide
theorem cond4_iff (k : Fin k0_t2_loop.trips) : k0_cond4 k = 1#1 ↔ 8 ≤ k.val := by revert k; decide +kernel
theorem cond6_iff (k : Fin k0_t2_loop.trips) : k0_cond6 k = 1#1 ↔ k.val + 12 < 390 := by revert k; decide +kernel

/-! ## Offsets -/

theorem off3_eq (e : Fin 5) (i j : Fin 12) : k0_off3 (wd e.val) (wd i.val) (wd j.val) = ![e.val, 512 * i.val, 512 * j.val] := by
  revert e i j; decide +kernel
theorem off4_eq (e : Fin 5) : k0_off4 (wd e.val) = ![e.val, 0, 0] := by revert e; decide +kernel
theorem off5_eq (e : Fin 5) : k0_off5 (wd e.val) = ![e.val, 0] := by revert e; decide +kernel
theorem off6_eq (e : Fin 5) : k0_off6 (wd e.val) = ![e.val] := by revert e; decide +kernel
theorem off7_eq (j : Fin 12) (r : Fin k0_t3_loop.trips) : k0_off7 (wd j.val) r = ![0, 512 * j.val + 128 * r.val] := by
  revert j r; decide +kernel
theorem off8_eq (j : Fin 12) (r : Fin k0_t3_loop.trips) : k0_off8 (wd j.val) r = ![512 * j.val + 128 * r.val, 0] := by
  revert j r; decide +kernel
theorem off9_eq (e : Fin 5) : k0_off9 (wd e.val) = ![e.val + 1, 0, 0] := by revert e; decide +kernel
theorem off11_eq (e : Fin 5) (i j : Fin 12) : k0_off11 (wd e.val) (wd i.val) (wd j.val) = ![e.val, 512 * i.val, 512 * j.val] := by
  revert e i j; decide +kernel
theorem off14_eq (e : Fin 5) (i j : Fin 12) : k0_off14 (wd e.val) (wd i.val) (wd j.val) = ![e.val, 512 * j.val, 512 * i.val] := by
  revert e i j; decide +kernel
theorem off18_eq (e : Fin 5) (i j : Fin 12) : k0_off18 (wd e.val) (wd i.val) (wd j.val) = ![e.val, 512 * i.val, 512 * j.val] := by
  revert e i j; decide +kernel
theorem off19_eq (e : Fin 5) : k0_off19 (wd e.val) = ![e.val] := by revert e; decide +kernel
theorem off20_eq (i : Fin 12) : k0_off20 (wd i.val) = ![512 * i.val, 0] := by revert i; decide +kernel
theorem off21_eq0 (j : Fin 12) : k0_off21 (wd j.val) 0#32 = ![512 * j.val, 0] := by revert j; decide +kernel
theorem off21_eq1 (j : Fin 12) : k0_off21 (wd j.val) 256#32 = ![512 * j.val + 256, 0] := by revert j; decide +kernel
theorem off30_eq (e : Fin 5) (i j : Fin 12) : k0_off30 (wd e.val) (wd i.val) (wd j.val) = ![e.val, 512 * i.val, 512 * j.val] := by
  revert e i j; decide +kernel
theorem off32_eq (e : Fin 5) (i j : Fin 12) : k0_off32 (wd e.val) (wd i.val) (wd j.val) = ![e.val, 512 * i.val, 512 * j.val] := by
  revert e i j; decide +kernel
theorem off35_eq (e : Fin 5) (i j : Fin 12) : k0_off35 (wd e.val) (wd i.val) (wd j.val) = ![e.val, 512 * j.val, 512 * i.val] := by
  revert e i j; decide +kernel
theorem off38_eq (e : Fin 5) (i j : Fin 12) : k0_off38 (wd e.val) (wd i.val) (wd j.val) = ![e.val, 512 * i.val, 512 * j.val] := by
  revert e i j; decide +kernel
theorem off41_eq (e : Fin 5) (i j : Fin 12) : k0_off41 (wd e.val) (wd i.val) (wd j.val) = ![e.val, 512 * j.val, 512 * i.val] := by
  revert e i j; decide +kernel

/-! ## Side conditions -/

theorem chk1_ok (e : Fin 5) (i j : Fin 12) : k0_chk1 (wd e.val) (wd i.val) (wd j.val) := by
  revert e i j; decide +kernel
theorem chk2_ok (e : Fin 5) (i j : Fin 12) : k0_chk2 (wd e.val) (wd i.val) (wd j.val) := by
  revert e i j; decide +kernel
theorem chk3_ok (e : Fin 5) (i : Fin 12) : k0_chk3 (wd e.val) (wd i.val) := by
  revert e i; decide +kernel
theorem inbT (e : Fin 5) (i j : Fin 12) : ∀ a, (![e.val, 512 * i.val, 512 * j.val] : Fin 3 → ℕ) a + S1x512x512.size a ≤ S5x6144x6144.size a := by
  revert e i j; decide +kernel
theorem chk4_ok (k : Fin k0_t2_loop.trips) (e : Fin 5) (i j : Fin 12) : k0_chk4 k (wd e.val) (wd i.val) (wd j.val) := by
  refine ⟨fun _ => ?_, fun _ _ => ?_⟩
  · rw [off11_eq]; exact inbT e i j
  · rw [off14_eq]; exact inbT e j i
theorem chk5_ok (e : Fin 5) : k0_chk5 (wd e.val) := by revert e; decide +kernel
theorem chk6_ok (k : Fin k0_t2_loop.trips) (e : Fin 5) (i j : Fin 12) : k0_chk6 k (wd e.val) (wd i.val) (wd j.val) := by
  intro _; rw [off30_eq]; exact inbT e i j
theorem chk7_ok (e : Fin 5) (i j : Fin 12) : k0_chk7 (wd e.val) (wd i.val) (wd j.val) := by
  revert e i j; decide +kernel
/-- No copy is issued past the last tile, so the side condition holds of any words there. -/
theorem chk6_past (k : Fin k0_t2_loop.trips) (h : ¬ k.val + 12 < 390) (a b c : BitVec 32) : k0_chk6 k a b c :=
  fun hc => absurd ((cond6_iff k).1 hc) h

/-! ## The words of a step -/

/-- The expert's word at step `s`. -/
abbrev wE (s : ℕ) : BitVec 32 := wd (tile s).1
/-- The row block's word at step `s`. -/
abbrev wI (s : ℕ) : BitVec 32 := wd (tile s).2.1
/-- The column block's word at step `s`. -/
abbrev wJ (s : ℕ) : BitVec 32 := wd (tile s).2.2

theorem wE_eq {s : ℕ} (hs : s < 390) : wE s = wd (tE s).val := by rw [tE_val hs]
theorem wI_eq {s : ℕ} (hs : s < 402) : wI s = wd (tI s).val := by rw [tI_val hs]
theorem wJ_eq {s : ℕ} (hs : s < 402) : wJ s = wd (tJ s).val := by rw [tJ_val hs]

/-- The next tile's words, as the kernel computes them. -/
def nxW (e i j : BitVec 32) : BitVec 32 × BitVec 32 × BitVec 32 :=
  let a : BitVec 32 := Scalar.addi j 1#32
  let c : BitVec 1 := Scalar.cmpi .eq a 12#32
  let b : BitVec 32 := Scalar.addi i 1#32
  let d : BitVec 32 := Scalar.select c b i
  let f : BitVec 1 := Scalar.cmpi .eq d 12#32
  let g : BitVec 32 := Scalar.select f 0#32 d
  let h : BitVec 32 := Scalar.select c g a
  let p : BitVec 32 := Scalar.addi e 1#32
  let q : BitVec 32 := Scalar.select f p e
  (q, g, h)

theorem nxW_fin (e : Fin 6) (i j : Fin 12) (hij : i.val ≤ j.val) : nxW (wd e.val) (wd i.val) (wd j.val)
    = (wd (nx (e.val, i.val, j.val)).1, wd (nx (e.val, i.val, j.val)).2.1, wd (nx (e.val, i.val, j.val)).2.2) := by
  revert e i j; decide +kernel

theorem nxW_step {s : ℕ} (hs : s < 402) : nxW (wE s) (wI s) (wJ s) = (wE (s + 1), wI (s + 1), wJ (s + 1)) := by
  have h := tile_facts s hs
  exact nxW_fin ⟨_, h.1⟩ ⟨_, lt_of_le_of_lt h.2.2.1 h.2.2.2.1⟩ ⟨_, h.2.2.2.1⟩ h.2.2.1

end Cert.KernelIdeal.Hand
-- ==== Proof.KernelIdeal.Mem.lean ====
/- The buffers, ring slots, tiles and semaphore cells of the kernel, under names of their own: `hSlot k`, `aSlot k`,
   `bSlot k` are the slots of the three rings, `hCell k`, `aCell k`, `bCell k` their semaphores, `hBlk e i j` and
   `oBlk e i j` the tiles of the Hessian read and of the Hessian written, `codesOf e` an expert's codes. -/
module

public import proofs.«01_k».proof.Proof.KernelIdeal.Words
public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Ring.Window
public import Idealize.ShloMosaic.Lib.Tactic
public import Idealize.ShloMosaic.Lib.WordCmp
public import Idealize.ShloMosaic.Lib.Exec

@[expose] public section

set_option maxRecDepth 16384

noncomputable section

namespace Cert.KernelIdeal.Hand

open Cert.KernelIdeal Cert.KernelIdeal.Gen Cert.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra. -/
abbrev MM (F : FTy → Type) := MT nD τ sig Unit (Elt F) ℕ (Pipeline.UD sig nD τ) ℕ

/-! ## The buffers -/

abbrev sizesM : Memref sig .tc .smem S5 .i32 := Memref.whole cc0_stg0_0
abbrev countsM : Memref sig .tc .smem S5 .i32 := Memref.whole cc0_stg1_0
abbrev coutM : Memref sig .tc .smem S5 .i32 := Memref.whole cc0_stg2_0
abbrev codesH : Memref sig .tc .hbm S5x460x6144 .fp8e4m3 := Memref.whole main_arg0
abbrev scalesH : Memref sig .tc .hbm S5x460 .f32 := Memref.whole main_arg1
abbrev hH : Memref sig .tc .hbm S5x6144x6144 .f32 := Memref.whole main_arg3
abbrev outH : Memref sig .tc .hbm S5x6144x6144 .f32 := Memref.whole main_v0_0
abbrev codesV : Memref sig .tc .vmem S460x6144 .fp8e4m3 := Memref.whole cc0_scratch0
abbrev scalesV : Memref sig .tc .vmem S5x460 .f32 := Memref.whole cc0_scratch1
abbrev xtV : Memref sig .tc .vmem S6144x512 .bf16 := Memref.whole cc0_scratch2
abbrev hV : Memref sig .tc .vmem S12x512x512 .f32 := Memref.whole cc0_scratch3
abbrev aV : Memref sig .tc .vmem S8x512x512 .f32 := Memref.whole cc0_scratch4
abbrev bV : Memref sig .tc .vmem S8x512x512 .f32 := Memref.whole cc0_scratch5

/-! ## Slots, tiles and cells -/

theorem inb12 (k : Fin 12) : ∀ a, (![k.val, 0, 0] : Fin 3 → ℕ) a + S1x512x512.size a ≤ S12x512x512.size a := by
  revert k; decide
theorem inb8 (k : Fin 8) : ∀ a, (![k.val, 0, 0] : Fin 3 → ℕ) a + S1x512x512.size a ≤ S8x512x512.size a := by
  revert k; decide
theorem inbC (e : Fin 5) : ∀ a, (![e.val, 0, 0] : Fin 3 → ℕ) a + S1x460x6144.size a ≤ S5x460x6144.size a := by
  revert e; decide

/-- Slot `k` of the ring of Hessian tiles read. -/
abbrev hSlot (k : Fin 12) : Memref sig .tc .vmem S512x512 .f32 :=
  (hV.slice (Rect.unit (s := S12x512x512) ![k.val, 0, 0] S1x512x512.size (inb12 k)) (fun _ => rfl)).squeeze S512x512 squeezes_S1x512x512_S512x512
/-- Slot `k` of the ring of tiles written. -/
abbrev aSlot (k : Fin 8) : Memref sig .tc .vmem S512x512 .f32 :=
  (aV.slice (Rect.unit (s := S8x512x512) ![k.val, 0, 0] S1x512x512.size (inb8 k)) (fun _ => rfl)).squeeze S512x512 squeezes_S1x512x512_S512x512
/-- Slot `k` of the ring of transposed tiles written. -/
abbrev bSlot (k : Fin 8) : Memref sig .tc .vmem S512x512 .f32 :=
  (bV.slice (Rect.unit (s := S8x512x512) ![k.val, 0, 0] S1x512x512.size (inb8 k)) (fun _ => rfl)).squeeze S512x512 squeezes_S1x512x512_S512x512
/-- The tile `(e, i, j)` of the Hessian read. -/
abbrev hBlk (e : Fin 5) (i j : Fin 12) : Memref sig .tc .hbm S512x512 .f32 :=
  (hH.slice (Rect.unit (s := S5x6144x6144) ![e.val, 512 * i.val, 512 * j.val] S1x512x512.size (inbT e i j)) (fun _ => rfl)).squeeze S512x512 squeezes_S1x512x512_S512x512
/-- The tile `(e, i, j)` of the Hessian written. -/
abbrev oBlk (e : Fin 5) (i j : Fin 12) : Memref sig .tc .hbm S512x512 .f32 :=
  (outH.slice (Rect.unit (s := S5x6144x6144) ![e.val, 512 * i.val, 512 * j.val] S1x512x512.size (inbT e i j)) (fun _ => rfl)).squeeze S512x512 squeezes_S1x512x512_S512x512
/-- Expert `e`'s codes. -/
abbrev codesOf (e : Fin 5) : Memref sig .tc .hbm S460x6144 .fp8e4m3 :=
  (codesH.slice (Rect.unit (s := S5x460x6144) ![e.val, 0, 0] S1x460x6144.size (inbC e)) (fun _ => rfl)).squeeze S460x6144 squeezes_S1x460x6144_S460x6144

abbrev codesSem : DmaSem sig := ⟨3, by decide⟩
abbrev scalesSem : DmaSem sig := ⟨4, by decide⟩
abbrev hSem (k : Fin 12) : DmaSem sig := ⟨5 + k.val, by have := k.isLt; show _ < 33; omega⟩
abbrev aSem (k : Fin 8) : DmaSem sig := ⟨17 + k.val, by have := k.isLt; show _ < 33; omega⟩
abbrev bSem (k : Fin 8) : DmaSem sig := ⟨25 + k.val, by have := k.isLt; show _ < 33; omega⟩

/-- A buffer of core `c`, seen through a memref. -/
abbrev BufOf (F : FTy → Type) (c : Dev nD) {sp : Space} {S : Shape} {e : EltTy} (M : Memref sig .tc sp S e) : Type :=
  Buf (Elt F) (M.view.loc (c : Thread nD τ))
/-- A memref's own elements held in full at the contents `f`. -/
abbrev held (c : Dev nD) {sp : Space} {S : Shape} {e : EltTy} (M : Memref sig .tc sp S e) (f : BufOf F c M) : sProp (MM F) :=
  M.view.loc (c : Thread nD τ) ↦[M.view.set]{fullShare} f
/-- A memref's own elements held in full, reading as `v`. -/
abbrev heldAt (c : Dev nD) {sp : Space} {S : Shape} {e : EltTy} (M : Memref sig .tc sp S e) (v : S.Idx → Elt F e) : sProp (MM F) :=
  iprop(∃ f : BufOf F c M, held c M f ∗ ⌜M.view.read (Elt F) f = v⌝)
/-- A memref's own elements held in full at anything. -/
abbrev heldAny (c : Dev nD) {sp : Space} {S : Shape} {e : EltTy} (M : Memref sig .tc sp S e) : sProp (MM F) :=
  iprop(∃ f : BufOf F c M, held c M f)

end Cert.KernelIdeal.Hand

end
-- ==== Proof.KernelIdeal.Ops.lean ====
/- One transfer, one wait, one load and one store through any memrefs, and what the slots' and tiles' names say of the
   memrefs, rectangles and semaphores the program spells. -/
module

public import proofs.«01_k».proof.Proof.KernelIdeal.Mem
public import Idealize.ShloMosaic.Lib.ValueLayout

@[expose] public section

set_option maxRecDepth 16384

noncomputable section

namespace Cert.KernelIdeal.Hand

open Cert.KernelIdeal Cert.KernelIdeal.Gen Cert.Tile
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! ## Transfers -/

/-- The copy of `M` at contents `fs` (held at the share `q`) into `D` is in flight on the semaphore `sm`. -/
def fly (c : Dev nD) {sp sp' : Space} {S : Shape} {e : EltTy} (M : Memref sig .tc sp S e) (D : Memref sig .tc sp' S e)
    (sm : DmaSem sig) (q : PosShare TreeShare) (fs : BufOf F c M) : sProp (MM F) :=
  iprop(∃ f : BufOf F c D, ⌜D.view.read (Elt F) f = M.view.read (Elt F) fs⌝ ∗
    Transfers.Flight (countersEmb (U := Pipeline.UD sig nD τ)) (c : Thread nD τ) (SemLoc.dma sm) () D.view.dmaCredit
      iprop((D.view.loc (c : Thread nD τ) ↦[D.view.set]{fullShare} f) ∗ (M.view.loc (c : Thread nD τ) ↦[M.view.set]{q} fs)))

/-- Some waits are owed. -/
abbrev owing (c : Dev nD) : sProp (MM F) := iprop(∃ W, owes (c : Thread nD τ) 0 W)

/-- Starting a copy. -/
theorem copy_start (c : Dev nD) {sp sp' : Space} {S : Shape} {e : EltTy} {M M' : Memref sig .tc sp S e} {D D' : Memref sig .tc sp' S e}
    {sm sm' : DmaSem sig} (hM : M' = M) (hD : D' = D) (hsm : sm' = sm) (q : PosShare TreeShare) (fs : BufOf F c M) (w1 w2 w3)
    (hpos : 0 < D.view.amount (SemLoc.dma sm)) (Q : PUnit → sProp (MM F)) :
    iprop(semVal ((c : Thread nD τ), SemLoc.dma sm) 0 ∗ heldAny c D ∗ (M.view.loc (c : Thread nD τ) ↦[M.view.set]{q} fs)
      ∗ (fly c M D sm q fs -∗ Q ⟨⟩))
      ⊢ wp frame (wpE (defs₀ (F := F)) Variants.none (c : Thread nD τ) none) Set.univ
        (Prog.lift (.enqueueDma M' (.here D') (.dma sm') w1 w2 w3)) Q := by
  subst hM hD hsm
  iintro ⟨Hcell, ⟨%f, Hslot⟩, Htok, Hk⟩
  sl_exec
  sl_step
  iapply Hk
  unfold fly
  iexists _
  isplitr [Hcell]
  rotate_left
  · iexact Hcell
  · ipureintro
    exact View.read_writes_whole _ _ _

/-- Waiting for a copy. -/
theorem copy_wait (c : Dev nD) {sp sp' : Space} {S : Shape} {e : EltTy} {M M' : Memref sig .tc sp S e} {D D' : Memref sig .tc sp' S e}
    {sm sm' : DmaSem sig} (hM : M' = M) (hD : D' = D) (hsm : sm' = sm) (q : PosShare TreeShare) (fs : BufOf F c M) (w1 w2)
    (Q : PUnit → sProp (MM F)) :
    iprop(fly c M D sm q fs ∗ owing c ∗ ((semVal ((c : Thread nD τ), SemLoc.dma sm) 0 ∗ heldAt c D (M.view.read (Elt F) fs)
        ∗ (M.view.loc (c : Thread nD τ) ↦[M.view.set]{q} fs) ∗ owing c) -∗ Q ⟨⟩))
      ⊢ wp frame (wpE (defs₀ (F := F)) Variants.none (c : Thread nD τ) none) Set.univ
        (Prog.lift (.waitDma2 sm' M' D' w1 w2)) Q := by
  subst hM hD hsm
  unfold fly owing
  iintro ⟨⟨%f, %hf, Hfl⟩, ⟨%W, HW⟩, Hk⟩
  sl_exec
  sl_step
  iapply Hk
  isplitl [Hfl]
  · iexact Hfl
  isplitl [Hfl_dst]
  · iexists f
    isplitl [Hfl_dst]
    · iexact Hfl_dst
    · ipureintro; exact hf
  isplitl [Hfl_src]
  · iexact Hfl_src
  iexists _; iexact HW

/-! ## Loads and stores -/

/-- A load through a rectangle whose elements are held. -/
theorem load_op (c : Dev nD) {S : Shape} {e : EltTy} (M : Memref sig .tc .vmem S e) (r : Rect S) (X : Finset (Idx (M.view.loc (c : Thread nD τ))))
    (hX : (M.access r).set ⊆ X) (q : PosShare TreeShare) (f : BufOf F c M) (w) (Q : _ → sProp (MM F)) :
    iprop((M.view.loc (c : Thread nD τ) ↦[X]{q} f) ∗ ((M.view.loc (c : Thread nD τ) ↦[X]{q} f) -∗ Q ((M.access r).read (Elt F) f)))
      ⊢ wp frame (wpE (defs₀ (F := F)) Variants.none (c : Thread nD τ) none) Set.univ
        (Prog.lift (.load M r.toLoadRect w)) Q := by
  iintro ⟨H, Hk⟩
  iapply (wp_load_rect Variants.none (c : Thread nD τ) none Set.univ (m := M) (r := r) (S := X) hX) $$ H
  iintro H
  iapply (le_wp_ret frame _ _ _ Q)
  iapply Hk
  iexact H

/-- A store through a rectangle whose elements are held in full. -/
theorem store_op (c : Dev nD) {S : Shape} {e : EltTy} (M : Memref sig .tc .vmem S e) (r : Rect S) (X : Finset (Idx (M.view.loc (c : Thread nD τ))))
    (hX : (M.access r).set ⊆ X) (f : BufOf F c M) (v) (w w') (Q : _ → sProp (MM F)) :
    iprop((M.view.loc (c : Thread nD τ) ↦[X]{fullShare} f) ∗ ((M.view.loc (c : Thread nD τ) ↦[X]{fullShare} M.view.writes (Elt F) f [⟨r, v⟩]) -∗ Q ⟨⟩))
      ⊢ wp frame (wpE (defs₀ (F := F)) Variants.none (c : Thread nD τ) none) Set.univ
        (Prog.lift (.store M r v Finset.univ w w')) Q := by
  iintro ⟨H, Hk⟩
  iapply (wp_store_writes₀ Variants.none (c : Thread nD τ) none Set.univ (m := M) (r := r) (S := X) hX) $$ H
  iintro H
  iapply (le_wp_ret frame _ _ _ Q)
  iapply Hk
  iexact H

/-! ## What the names say -/

theorem hSlot_eq {o : Fin 3 → ℕ} {k : Fin 12} (h : o = ![k.val, 0, 0]) (b : ∀ a, o a + S1x512x512.size a ≤ S12x512x512.size a) :
    (hV.slice (Rect.unit (s := S12x512x512) o S1x512x512.size b) (fun _ => rfl)).squeeze S512x512 squeezes_S1x512x512_S512x512 = hSlot k := by
  subst h; rfl
theorem aSlot_eq {o : Fin 3 → ℕ} {k : Fin 8} (h : o = ![k.val, 0, 0]) (b : ∀ a, o a + S1x512x512.size a ≤ S8x512x512.size a) :
    (aV.slice (Rect.unit (s := S8x512x512) o S1x512x512.size b) (fun _ => rfl)).squeeze S512x512 squeezes_S1x512x512_S512x512 = aSlot k := by
  subst h; rfl
theorem bSlot_eq {o : Fin 3 → ℕ} {k : Fin 8} (h : o = ![k.val, 0, 0]) (b : ∀ a, o a + S1x512x512.size a ≤ S8x512x512.size a) :
    (bV.slice (Rect.unit (s := S8x512x512) o S1x512x512.size b) (fun _ => rfl)).squeeze S512x512 squeezes_S1x512x512_S512x512 = bSlot k := by
  subst h; rfl
theorem hBlk_eq {o : Fin 3 → ℕ} {e : Fin 5} {i j : Fin 12} (h : o = ![e.val, 512 * i.val, 512 * j.val]) (b : ∀ a, o a + S1x512x512.size a ≤ S5x6144x6144.size a) :
    (hH.slice (Rect.unit (s := S5x6144x6144) o S1x512x512.size b) (fun _ => rfl)).squeeze S512x512 squeezes_S1x512x512_S512x512 = hBlk e i j := by
  subst h; rfl
theorem oBlk_eq {o : Fin 3 → ℕ} {e : Fin 5} {i j : Fin 12} (h : o = ![e.val, 512 * i.val, 512 * j.val]) (b : ∀ a, o a + S1x512x512.size a ≤ S5x6144x6144.size a) :
    (outH.slice (Rect.unit (s := S5x6144x6144) o S1x512x512.size b) (fun _ => rfl)).squeeze S512x512 squeezes_S1x512x512_S512x512 = oBlk e i j := by
  subst h; rfl
theorem codesOf_eq {o : Fin 3 → ℕ} {e : Fin 5} (h : o = ![e.val, 0, 0]) (b : ∀ a, o a + S1x460x6144.size a ≤ S5x460x6144.size a) :
    (codesH.slice (Rect.unit (s := S5x460x6144) o S1x460x6144.size b) (fun _ => rfl)).squeeze S460x6144 squeezes_S1x460x6144_S460x6144 = codesOf e := by
  subst h; rfl

theorem hSem_eq {o : Fin 1 → ℕ} {k : Fin 12} (h : o = ![k.val]) (b : ∀ a, o a + S1.size a ≤ S12.size a) :
    ((cc0_scratch8.slice (Rect.unit (s := S12) o S1.size b)).squeeze S_ squeezes_S1_S_).sem = hSem k := by
  subst h
  have H : ∀ k : Fin 12, ((cc0_scratch8.slice (Rect.unit (s := S12) ![k.val] S1.size (by revert k; decide))).squeeze S_ squeezes_S1_S_).sem = hSem k := by decide +kernel
  exact H k
theorem aSem_eq {o : Fin 1 → ℕ} {k : Fin 8} (h : o = ![k.val]) (b : ∀ a, o a + S1.size a ≤ S8.size a) :
    ((cc0_scratch9.slice (Rect.unit (s := S8) o S1.size b)).squeeze S_ squeezes_S1_S_).sem = aSem k := by
  subst h
  have H : ∀ k : Fin 8, ((cc0_scratch9.slice (Rect.unit (s := S8) ![k.val] S1.size (by revert k; decide))).squeeze S_ squeezes_S1_S_).sem = aSem k := by decide +kernel
  exact H k
theorem bSem_eq {o : Fin 1 → ℕ} {k : Fin 8} (h : o = ![k.val]) (b : ∀ a, o a + S1.size a ≤ S8.size a) :
    ((cc0_scratch10.slice (Rect.unit (s := S8) o S1.size b)).squeeze S_ squeezes_S1_S_).sem = bSem k := by
  subst h
  have H : ∀ k : Fin 8, ((cc0_scratch10.slice (Rect.unit (s := S8) ![k.val] S1.size (by revert k; decide))).squeeze S_ squeezes_S1_S_).sem = bSem k := by decide +kernel
  exact H k
theorem codesSem_eq : cc0_scratch6.sem = codesSem := by decide +kernel
theorem scalesSem_eq : cc0_scratch7.sem = scalesSem := by decide +kernel

/-! ## Elements -/

theorem hSlot_read (k : Fin 12) (f : S12x512x512.Idx → Elt F .f32) (r c : Fin 512) :
    (hSlot k).view.read (Elt F) f (ix2 r c) = f (ix3 k r c) := by
  show f ((Rect.unit (s := S12x512x512) ![k.val, 0, 0] S1x512x512.size (inb12 k)).emb (Shape.reshapeEquiv _ (ix2 r c))) = _
  rw [reshapeEquiv_ix2_1ab]
  congr 1; funext a; apply Fin.ext
  rw [Rect.emb_apply]
  fin_cases a <;> simp [ix3]
theorem aSlot_read (k : Fin 8) (f : S8x512x512.Idx → Elt F .f32) (r c : Fin 512) :
    (aSlot k).view.read (Elt F) f (ix2 r c) = f (ix3 k r c) := by
  show f ((Rect.unit (s := S8x512x512) ![k.val, 0, 0] S1x512x512.size (inb8 k)).emb (Shape.reshapeEquiv _ (ix2 r c))) = _
  rw [reshapeEquiv_ix2_1ab]
  congr 1; funext a; apply Fin.ext
  rw [Rect.emb_apply]
  fin_cases a <;> simp [ix3]
theorem bSlot_read (k : Fin 8) (f : S8x512x512.Idx → Elt F .f32) (r c : Fin 512) :
    (bSlot k).view.read (Elt F) f (ix2 r c) = f (ix3 k r c) := aSlot_read k f r c
theorem hBlk_read (e : Fin 5) (i j : Fin 12) (f : S5x6144x6144.Idx → Elt F .f32) (r c : Fin 512) :
    (hBlk e i j).view.read (Elt F) f (ix2 r c) = f (ix3 e ⟨512 * i.val + r.val, by omega⟩ ⟨512 * j.val + c.val, by omega⟩) := by
  show f ((Rect.unit (s := S5x6144x6144) ![e.val, 512 * i.val, 512 * j.val] S1x512x512.size (inbT e i j)).emb (Shape.reshapeEquiv _ (ix2 r c))) = _
  rw [reshapeEquiv_ix2_1ab]
  congr 1; funext a; apply Fin.ext
  rw [Rect.emb_apply]
  fin_cases a <;> simp [ix3]
theorem oBlk_read (e : Fin 5) (i j : Fin 12) (f : S5x6144x6144.Idx → Elt F .f32) (r c : Fin 512) :
    (oBlk e i j).view.read (Elt F) f (ix2 r c) = f (ix3 e ⟨512 * i.val + r.val, by omega⟩ ⟨512 * j.val + c.val, by omega⟩) := hBlk_read e i j f r c

end Cert.KernelIdeal.Hand

end
-- ==== Proof.KernelIdeal.Values.lean ====
/- What the kernel computes, as functions of its inputs: an expert's dequantised rows, one tile of the updated Hessian and its
   transpose. -/
module

public import proofs.«01_k».proof.Proof.KernelIdeal.Ops

@[expose] public section

set_option maxRecDepth 16384

noncomputable section

namespace Cert.KernelIdeal.Hand

open Cert.KernelIdeal Cert.KernelIdeal.Gen Cert.Tile
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The kernel's inputs. -/
structure Inp (F : FTy → Type) where
  /-- The codes. -/
  codes : S5x460x6144.Idx → Elt F .fp8e4m3
  /-- The scales. -/
  scales : S5x460.Idx → Elt F .f32
  /-- The numbers of rows the experts hold. -/
  sizes : S5.Idx → Elt F .i32
  /-- The Hessians. -/
  hess : S5x6144x6144.Idx → Elt F .f32
  /-- The numbers of rows seen before. -/
  counts : S5.Idx → Elt F .i32

variable (x : Inp F)

/-- An expert's scales. -/
def scRow (e : Fin 5) : Vec F S1x460 .f32 := fun a => x.scales (ix2 e (a 1))
/-- The `q`-th block of 128 columns of an expert's codes. -/
def chunkAt (e : Fin 5) (q : Fin 48) : Vec F S460x128 .fp8e4m3 :=
  fun a => x.codes (ix3 e (a 0) (⟨128 * q.val + (a 1).val, by have := (a 1).isLt; have h : (a 1).val < 128 := this; omega⟩ : Fin 6144))
/-- An expert's dequantised rows, transposed: row `r` is feature `r`. -/
def xtOf (e : Fin 5) : S6144x512.Idx → Elt F .bf16 :=
  fun a => k0_pay1 (scRow x e) (x.sizes (ix1 e)) (chunkAt x e ⟨(a 0).val / 128, by have h : (a 0).val < 6144 := (a 0).isLt; omega⟩)
    (ix2 (⟨(a 0).val % 128, Nat.mod_lt _ (by omega)⟩ : Fin 128) (a 1))
/-- The features of row block `i`. -/
def lhsOf (e : Fin 5) (i : Fin 12) : Vec F S512x512 .bf16 :=
  fun a => xtOf x e (ix2 (⟨512 * i.val + (a 0).val, by have h : (a 0).val < 512 := (a 0).isLt; omega⟩ : Fin 6144) (a 1))
/-- The features of half `h` of column block `j`. -/
def rhsOf (e : Fin 5) (j : Fin 12) (h : Fin 2) : Vec F S256x512 .bf16 :=
  fun a => xtOf x e (ix2 (⟨512 * j.val + 256 * h.val + (a 0).val, by have h : (a 0).val < 256 := (a 0).isLt; omega⟩ : Fin 6144) (a 1))
/-- Half `h` of the tile `(e, i, j)` of the Hessian. -/
def hHalf (e : Fin 5) (i j : Fin 12) (h : Fin 2) : Vec F S1x512x256 .f32 :=
  fun a => x.hess (ix3 e (⟨512 * i.val + (a 1).val, by have h : (a 1).val < 512 := (a 1).isLt; omega⟩ : Fin 6144)
    (⟨512 * j.val + 256 * h.val + (a 2).val, by have h : (a 2).val < 256 := (a 2).isLt; omega⟩ : Fin 6144))
/-- The weight of the old Hessian. -/
def keepOf (e : Fin 5) : FVec F S1x1 .f32 := k0_pay4 (x.counts (ix1 e)) (x.sizes (ix1 e))
/-- The weight of the products. -/
def gainOf (e : Fin 5) : FVec F S1x1 .f32 := k0_pay5 (x.counts (ix1 e)) (x.sizes (ix1 e))
/-- Half `h` of the tile `(e, i, j)` of the updated Hessian. -/
def halfOf (e : Fin 5) (i j : Fin 12) (h : Fin 2) : FVec F S512x256 .f32 :=
  k0_pay6 (keepOf x e) (gainOf x e) (lhsOf x e i) (rhsOf x e j h) (hHalf x e i j h)
/-- The tile `(e, i, j)` of the updated Hessian. -/
def tileOf (e : Fin 5) (i j : Fin 12) : S512x512.Idx → Elt F .f32 :=
  fun a => halfOf x e i j ⟨(a 1).val / 256, by have h : (a 1).val < 512 := (a 1).isLt; omega⟩
    (ix2 (a 0) (⟨(a 1).val % 256, Nat.mod_lt _ (by omega)⟩ : Fin 256))
/-- Its transpose. -/
def tileT (e : Fin 5) (i j : Fin 12) : S512x512.Idx → Elt F .f32 := fun a => tileOf x e i j (ix2 (a 1) (a 0))

/-- The tile of step `s`. -/
abbrev tileS (s : ℕ) := tileOf x (tE s) (tI s) (tJ s)
/-- The transposed tile of step `s`. -/
abbrev tileTS (s : ℕ) := tileT x (tE s) (tI s) (tJ s)

end Cert.KernelIdeal.Hand

end
-- ==== Proof.KernelIdeal.Slots.lean ====
/- What the kernel's loads read and its stores leave: halves of ring slots, blocks of dequantised rows, and single words. -/
module

public import proofs.«01_k».proof.Proof.KernelIdeal.Values
public import Idealize.ShloMosaic.Lib.Pipeline.Value
public import Idealize.ShloMosaic.Lib.WritesUnit

@[expose] public section

set_option maxRecDepth 16384

noncomputable section

namespace Cert.KernelIdeal.Hand

open Cert.KernelIdeal Cert.KernelIdeal.Gen Cert.Tile
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! ## Elements a slot's half lies in -/

theorem hSlot_sub {o : Fin 3 → ℕ} {k : Fin 12} {m : ℕ} (hm : m ≤ 256) (h : o = ![k.val, 0, m])
    (b : ∀ a, o a + S1x512x256.size a ≤ S12x512x512.size a) :
    (hV.access (Rect.unit (s := S12x512x512) o S1x512x256.size b)).set ⊆ (hSlot k).view.set := by
  subst h
  rw [show (hSlot k).view.set = (Rect.unit (s := S12x512x512) ![k.val, 0, 0] S1x512x512.size (inb12 k)).set from
    (View.set_reshape _ _).trans (View.set_slice_whole _ _)]
  rw [show (hV.access (Rect.unit (s := S12x512x512) ![k.val, 0, m] S1x512x256.size b)).set = (Rect.unit (s := S12x512x512) ![k.val, 0, m] S1x512x256.size b).set from View.set_slice_whole _ _]
  intro y hy
  rw [Rect.mem_set_unit] at hy ⊢
  intro a
  have := hy a
  fin_cases a <;> simp [Matrix.cons_val_zero] at this ⊢ <;> omega

theorem aSlot_sub {o sz : Fin 3 → ℕ} {k : Fin 8} {m n : ℕ} (h : o = ![k.val, m, n]) (hs : sz 0 = 1)
    (b : ∀ a, o a + sz a ≤ S8x512x512.size a) :
    (aV.access (Rect.unit (s := S8x512x512) o sz b)).set ⊆ (aSlot k).view.set := by
  subst h
  rw [show (aSlot k).view.set = (Rect.unit (s := S8x512x512) ![k.val, 0, 0] S1x512x512.size (inb8 k)).set from
    (View.set_reshape _ _).trans (View.set_slice_whole _ _)]
  rw [show (aV.access (Rect.unit (s := S8x512x512) ![k.val, m, n] sz b)).set = (Rect.unit (s := S8x512x512) ![k.val, m, n] sz b).set from View.set_slice_whole _ _]
  intro y hy
  rw [Rect.mem_set_unit] at hy ⊢
  intro a
  have h1 := hy a
  have h2 := (y a).isLt
  fin_cases a
  · simp [hs] at h1 ⊢; omega
  · exact ⟨Nat.zero_le _, by show _ < 0 + 512; rw [Nat.zero_add]; exact h2⟩
  · exact ⟨Nat.zero_le _, by show _ < 0 + 512; rw [Nat.zero_add]; exact h2⟩

theorem bSlot_sub {o sz : Fin 3 → ℕ} {k : Fin 8} {m n : ℕ} (h : o = ![k.val, m, n]) (hs : sz 0 = 1)
    (b : ∀ a, o a + sz a ≤ S8x512x512.size a) :
    (bV.access (Rect.unit (s := S8x512x512) o sz b)).set ⊆ (bSlot k).view.set := aSlot_sub h hs b

/-! ## Halves read -/

/-- A half of a slot that holds a Hessian tile. -/
theorem hSlot_half (x : Inp F) {e : Fin 5} {i j : Fin 12} {k : Fin 12} {f : S12x512x512.Idx → Elt F .f32}
    (hf : (hSlot k).view.read (Elt F) f = (hBlk e i j).view.read (Elt F) x.hess) (h : Fin 2) {o : Fin 3 → ℕ} (ho : o = ![k.val, 0, 256 * h.val])
    (b : ∀ a, o a + S1x512x256.size a ≤ S12x512x512.size a) :
    (hV.access (Rect.unit (s := S12x512x512) o S1x512x256.size b)).read (Elt F) f = hHalf x e i j h := by
  subst ho
  have key : ∀ (z : Fin 1) (r : Fin 512) (l : Fin 256), f ((Rect.unit (s := S12x512x512) ![k.val, 0, 256 * h.val] S1x512x256.size b).emb (ix3 z r l)) = hHalf x e i j h (ix3 z r l) := by
    intro z r l
    have h1 := h.isLt
    have hz : z.val = 0 := by omega
    have : (Rect.unit (s := S12x512x512) ![k.val, 0, 256 * h.val] S1x512x256.size b).emb (ix3 z r l) = (ix3 k r (⟨256 * h.val + l.val, by omega⟩ : Fin 512) : S12x512x512.Idx) := by
      funext d; apply Fin.ext
      rw [Rect.emb_apply]
      fin_cases d <;> simp [ix3, hz]
    rw [this]
    refine (hSlot_read k f r _).symm.trans ((congrFun hf _).trans ((hBlk_read e i j x.hess r _).trans ?_))
    unfold hHalf
    congr 1; funext d; apply Fin.ext
    fin_cases d <;> simp [ix3]
    omega
  funext a
  have ha : a = ix3 (a 0) (a 1) (a 2) := by funext d; fin_cases d <;> rfl
  rw [ha]
  exact key (a 0) (a 1) (a 2)

/-! ## Halves written -/

theorem aSlot_read' (k : Fin 8) (f : aV.view.ty.Contents (Elt F)) (r c : Fin 512) :
    (aSlot k).view.read (Elt F) f (ix2 r c) = aV.view.read (Elt F) f (ix3 k r c) := aSlot_read k f r c

theorem aWrites_apply (f : aV.view.ty.Contents (Elt F)) {k : Fin 8} (h : Fin 2) {o : Fin 3 → ℕ} (ho : o = ![k.val, 0, 256 * h.val])
    (b : ∀ a, o a + S1x512x256.size a ≤ S8x512x512.size a) (v : S1x512x256.Idx → Elt F .f32) (r c : Fin 512) :
    aV.view.read (Elt F) (aV.view.writes (Elt F) f [⟨Rect.unit (s := S8x512x512) o S1x512x256.size b, v⟩]) (ix3 k r c)
      = if c.val / 256 = h.val then v (ix3 0 r (⟨c.val % 256, Nat.mod_lt _ (by omega)⟩ : Fin 256)) else aV.view.read (Elt F) f (ix3 k r c) := by
  by_cases hc : c.val / 256 = h.val
  · rw [if_pos hc]
    refine View.read_writes_cons_unit_of_mem (v := aV.view) (f := f) b v [] (ix3 k r c) (ix3 0 r (⟨c.val % 256, Nat.mod_lt _ (by omega)⟩ : Fin 256)) ho ?_
    intro a
    fin_cases a <;> simp [ix3] <;> omega
  · rw [if_neg hc]
    refine (View.read_writes_cons_unit_of_not_mem (v := aV.view) (f := f) b v [] (ix3 k r c) ho 2 ?_)
    have := c.isLt; have := h.isLt
    simp [ix3]; omega

theorem bSlot_read' (k : Fin 8) (f : bV.view.ty.Contents (Elt F)) (r c : Fin 512) :
    (bSlot k).view.read (Elt F) f (ix2 r c) = bV.view.read (Elt F) f (ix3 k r c) := bSlot_read k f r c

theorem bWrites_apply (f : bV.view.ty.Contents (Elt F)) {k : Fin 8} (h : Fin 2) {o : Fin 3 → ℕ} (ho : o = ![k.val, 256 * h.val, 0])
    (b : ∀ a, o a + S1x256x512.size a ≤ S8x512x512.size a) (v : S1x256x512.Idx → Elt F .f32) (r c : Fin 512) :
    bV.view.read (Elt F) (bV.view.writes (Elt F) f [⟨Rect.unit (s := S8x512x512) o S1x256x512.size b, v⟩]) (ix3 k r c)
      = if r.val / 256 = h.val then v (ix3 0 (⟨r.val % 256, Nat.mod_lt _ (by omega)⟩ : Fin 256) c) else bV.view.read (Elt F) f (ix3 k r c) := by
  by_cases hc : r.val / 256 = h.val
  · rw [if_pos hc]
    refine View.read_writes_cons_unit_of_mem (v := bV.view) (f := f) b v [] (ix3 k r c) (ix3 0 (⟨r.val % 256, Nat.mod_lt _ (by omega)⟩ : Fin 256) c) ho ?_
    intro a
    fin_cases a <;> simp [ix3] <;> omega
  · rw [if_neg hc]
    refine (View.read_writes_cons_unit_of_not_mem (v := bV.view) (f := f) b v [] (ix3 k r c) ho 1 ?_)
    have := r.isLt; have := h.isLt
    simp [ix3]; omega

theorem cast_half (v : S512x256.Idx → Elt F .f32) (hs) (r : Fin 512) (c : Fin 256) : shapeCast S1x512x256 v hs (ix3 0 r c) = v (ix2 r c) := by
  refine (shapeCast_addUnit_apply (n := 2) ![512, 256] v hs (ix3 0 r c)).trans ?_
  congr 1; funext a; fin_cases a <;> rfl
theorem cast_halfT (v : S256x512.Idx → Elt F .f32) (hs) (r : Fin 256) (c : Fin 512) : shapeCast S1x256x512 v hs (ix3 0 r c) = v (ix2 r c) := by
  refine (shapeCast_addUnit_apply (n := 2) ![256, 512] v hs (ix3 0 r c)).trans ?_
  congr 1; funext a; fin_cases a <;> rfl
theorem trans_half (v : S512x256.Idx → Elt F .f32) (ht) (r : Fin 256) (c : Fin 512) : transpose S256x512 [1, 0] v ht (ix2 r c) = v (ix2 c r) := by
  refine transpose_apply [1, 0] v ht (ix2 r c) (ix2 c r) ?_
  intro d; fin_cases d <;> rfl

theorem pay7_apply (v54 v57 v64 v66 v69) (r : Fin 512) (c : Fin 256) : (k0_pay7 (F := F) v54 v57 v64 v66 v69) (ix3 0 r c) = k0_pay6 v54 v57 v64 v66 v69 (ix2 r c) :=
  cast_half (k0_pay6 v54 v57 v64 v66 v69) shapeCasts_S512x256_S1x512x256 r c
theorem pay10_apply (v54 v57 v64 v66 v69) (r : Fin 512) (c : Fin 256) : (k0_pay10 (F := F) v54 v57 v64 v66 v69) (ix3 0 r c) = k0_pay6 v54 v57 v64 v66 v69 (ix2 r c) :=
  cast_half (k0_pay6 v54 v57 v64 v66 v69) shapeCasts_S512x256_S1x512x256 r c
theorem pay8_apply (v54 v57 v64 v66 v69) (r : Fin 256) (c : Fin 512) : (k0_pay8 (F := F) v54 v57 v64 v66 v69) (ix3 0 r c) = k0_pay6 v54 v57 v64 v66 v69 (ix2 c r) :=
  (cast_halfT (transpose S256x512 [1, 0] (k0_pay6 v54 v57 v64 v66 v69) transposes_S512x256_p1_0_S256x512) shapeCasts_S256x512_S1x256x512 r c).trans
    (trans_half (k0_pay6 v54 v57 v64 v66 v69) transposes_S512x256_p1_0_S256x512 r c)
theorem pay11_apply (v54 v57 v64 v66 v69) (r : Fin 256) (c : Fin 512) : (k0_pay11 (k0_pay9 (F := F) v54 v57 v64 v66 v69)) (ix3 0 r c) = k0_pay6 v54 v57 v64 v66 v69 (ix2 c r) :=
  (cast_halfT (transpose S256x512 [1, 0] (k0_pay6 v54 v57 v64 v66 v69) transposes_S512x256_p1_0_S256x512) shapeCasts_S256x512_S1x256x512 r c).trans
    (trans_half (k0_pay6 v54 v57 v64 v66 v69) transposes_S512x256_p1_0_S256x512 r c)

theorem tileOf_apply (x : Inp F) (e : Fin 5) (i j : Fin 12) (r c : Fin 512) (h : Fin 2) (hh : c.val / 256 = h.val) :
    tileOf x e i j (ix2 r c) = halfOf x e i j h (ix2 r (⟨c.val % 256, Nat.mod_lt _ (by omega)⟩ : Fin 256)) := by
  have h' : h = ⟨c.val / 256, by omega⟩ := Fin.ext hh.symm
  rw [h']
  rfl

/-- A slot whose two halves are written holds the tile. -/
theorem aSlot_tile (x : Inp F) (e : Fin 5) (i j : Fin 12) {k : Fin 8} (f : S8x512x512.Idx → Elt F .f32) {o o' : Fin 3 → ℕ} (ho : o = ![k.val, 0, 0]) (ho' : o' = ![k.val, 0, 256])
    (b : ∀ a, o a + S1x512x256.size a ≤ S8x512x512.size a) (b' : ∀ a, o' a + S1x512x256.size a ≤ S8x512x512.size a) :
    (aSlot k).view.read (Elt F) (aV.view.writes (Elt F) (aV.view.writes (Elt F) f [⟨Rect.unit (s := S8x512x512) o S1x512x256.size b, k0_pay7 (keepOf x e) (gainOf x e) (lhsOf x e i) (rhsOf x e j 0) (hHalf x e i j 0)⟩])
      [⟨Rect.unit (s := S8x512x512) o' S1x512x256.size b', k0_pay10 (keepOf x e) (gainOf x e) (lhsOf x e i) (rhsOf x e j 1) (hHalf x e i j 1)⟩])
      = tileOf x e i j := by
  funext a
  obtain ⟨r, c, rfl⟩ : ∃ (r c : Fin 512), a = ix2 r c := ⟨a 0, a 1, by funext d; fin_cases d <;> rfl⟩
  refine (aSlot_read' k _ r c).trans ((aWrites_apply _ 1 ho' b' _ r c).trans ?_)
  have hc := c.isLt
  by_cases h1 : c.val / 256 = (1 : Fin 2).val
  · rw [if_pos h1, pay10_apply, tileOf_apply x e i j r c 1 h1]
    rfl
  · have h0 : c.val / 256 = (0 : Fin 2).val := by
      have : c.val / 256 ≠ 1 := h1
      show c.val / 256 = 0
      omega
    rw [if_neg h1]
    refine (aWrites_apply _ 0 ho b _ r c).trans ?_
    rw [if_pos h0, pay7_apply, tileOf_apply x e i j r c 0 h0]
    rfl

/-- A slot whose two halves are written holds the transposed tile. -/
theorem bSlot_tile (x : Inp F) (e : Fin 5) (i j : Fin 12) {k : Fin 8} (f : S8x512x512.Idx → Elt F .f32) {o o' : Fin 3 → ℕ} (ho : o = ![k.val, 0, 0]) (ho' : o' = ![k.val, 256, 0])
    (b : ∀ a, o a + S1x256x512.size a ≤ S8x512x512.size a) (b' : ∀ a, o' a + S1x256x512.size a ≤ S8x512x512.size a) :
    (bSlot k).view.read (Elt F) (bV.view.writes (Elt F) (bV.view.writes (Elt F) f [⟨Rect.unit (s := S8x512x512) o S1x256x512.size b, k0_pay8 (keepOf x e) (gainOf x e) (lhsOf x e i) (rhsOf x e j 0) (hHalf x e i j 0)⟩])
      [⟨Rect.unit (s := S8x512x512) o' S1x256x512.size b', k0_pay11 (k0_pay9 (keepOf x e) (gainOf x e) (lhsOf x e i) (rhsOf x e j 1) (hHalf x e i j 1))⟩])
      = tileT x e i j := by
  funext a
  obtain ⟨r, c, rfl⟩ : ∃ (r c : Fin 512), a = ix2 r c := ⟨a 0, a 1, by funext d; fin_cases d <;> rfl⟩
  refine (bSlot_read' k _ r c).trans ((bWrites_apply _ 1 ho' b' _ r c).trans ?_)
  have hT : tileT x e i j (ix2 r c) = tileOf x e i j (ix2 c r) := rfl
  have hc := r.isLt
  by_cases h1 : r.val / 256 = (1 : Fin 2).val
  · rw [if_pos h1, pay11_apply, hT, tileOf_apply x e i j c r 1 h1]
    rfl
  · have h0 : r.val / 256 = (0 : Fin 2).val := by
      have : r.val / 256 ≠ 1 := h1
      show r.val / 256 = 0
      omega
    rw [if_neg h1]
    refine (bWrites_apply _ 0 ho b _ r c).trans ?_
    rw [if_pos h0, pay8_apply, hT, tileOf_apply x e i j c r 0 h0]
    rfl

/-! ## The dequantised rows -/

/-- The first `n` dequantised rows are an expert's. -/
def xtGood (x : Inp F) (e : Fin 5) (n : ℕ) (f : xtV.view.ty.Contents (Elt F)) : Prop :=
  ∀ (r : Fin 6144) (l : Fin 512), r.val < n → xtV.view.read (Elt F) f (ix2 r l) = xtOf x e (ix2 r l)

theorem xt_lhs (x : Inp F) {e : Fin 5} {i : Fin 12} {n : ℕ} {f : xtV.view.ty.Contents (Elt F)} (hf : xtGood x e n f) (hn : 512 * i.val + 512 ≤ n)
    {o : Fin 2 → ℕ} (ho : o = ![512 * i.val, 0]) (b : ∀ a, o a + S512x512.size a ≤ S6144x512.size a) :
    (xtV.access (Rect.unit (s := S6144x512) o S512x512.size b)).read (Elt F) f = lhsOf x e i := by
  subst ho
  funext a
  have h0 : (a 0).val < 512 := (a 0).isLt
  refine Eq.trans ?_ (hf ⟨512 * i.val + (a 0).val, by omega⟩ (a 1) (by show 512 * i.val + (a 0).val < n; omega))
  show f ((Rect.unit (s := S6144x512) ![512 * i.val, 0] S512x512.size b).emb a) = _
  congr 1; funext d; apply Fin.ext
  rw [Rect.emb_apply]
  fin_cases d <;> simp [ix2] <;> rfl

theorem xt_rhs (x : Inp F) {e : Fin 5} {j : Fin 12} (h : Fin 2) {n : ℕ} {f : xtV.view.ty.Contents (Elt F)} (hf : xtGood x e n f) (hn : 512 * j.val + 512 ≤ n)
    {o : Fin 2 → ℕ} (ho : o = ![512 * j.val + 256 * h.val, 0]) (b : ∀ a, o a + S256x512.size a ≤ S6144x512.size a) :
    (xtV.access (Rect.unit (s := S6144x512) o S256x512.size b)).read (Elt F) f = rhsOf x e j h := by
  subst ho
  funext a
  have h0 : (a 0).val < 256 := (a 0).isLt
  have h1 := h.isLt
  refine Eq.trans ?_ (hf ⟨512 * j.val + 256 * h.val + (a 0).val, by omega⟩ (a 1) (by show 512 * j.val + 256 * h.val + (a 0).val < n; omega))
  show f ((Rect.unit (s := S6144x512) ![512 * j.val + 256 * h.val, 0] S256x512.size b).emb a) = _
  congr 1; funext d; apply Fin.ext
  rw [Rect.emb_apply]
  fin_cases d <;> simp [ix2] <;> rfl

/-- Storing one block of 128 dequantised rows. -/
theorem xtGood_store (x : Inp F) {e : Fin 5} (q : Fin 48) {f : xtV.view.ty.Contents (Elt F)} (hf : xtGood x e (128 * q.val) f)
    {o : Fin 2 → ℕ} (ho : o = ![128 * q.val, 0]) (b : ∀ a, o a + S128x512.size a ≤ S6144x512.size a) :
    xtGood x e (128 * (q.val + 1)) (xtV.view.writes (Elt F) f [⟨Rect.unit (s := S6144x512) o S128x512.size b, k0_pay1 (scRow x e) (x.sizes (ix1 e)) (chunkAt x e q)⟩]) := by
  intro r l hr
  by_cases hc : 128 * q.val ≤ r.val
  · refine (View.read_writes_cons_unit_of_mem (v := xtV.view) (f := f) b (k0_pay1 (scRow x e) (x.sizes (ix1 e)) (chunkAt x e q)) [] (ix2 r l) (ix2 (⟨r.val % 128, Nat.mod_lt _ (by omega)⟩ : Fin 128) l) ho ?_).trans ?_
    · intro a
      fin_cases a <;> simp [ix2] <;> omega
    · unfold xtOf
      have : (⟨(ix2 r l 0).val / 128, by have h : (ix2 r l 0).val < 6144 := (ix2 r l 0).isLt; omega⟩ : Fin 48) = q := Fin.ext (by show r.val / 128 = q.val; omega)
      rw [this]
  · refine (View.read_writes_cons_unit_of_not_mem (v := xtV.view) (f := f) b (k0_pay1 (scRow x e) (x.sizes (ix1 e)) (chunkAt x e q)) [] (ix2 r l) ho 0 ?_).trans (hf r l (by omega))
    left; simp [ix2]; omega

theorem codesOf_read (e : Fin 5) (f : S5x460x6144.Idx → Elt F .fp8e4m3) (r : Fin 460) (c : Fin 6144) :
    (codesOf e).view.read (Elt F) f (ix2 r c) = f (ix3 e r c) := by
  show f ((Rect.unit (s := S5x460x6144) ![e.val, 0, 0] S1x460x6144.size (inbC e)).emb (Shape.reshapeEquiv _ (ix2 r c))) = _
  rw [reshapeEquiv_ix2_1ab]
  congr 1; funext a; apply Fin.ext
  rw [Rect.emb_apply]
  fin_cases a <;> simp [ix3]

theorem codes_chunk (x : Inp F) {e : Fin 5} (q : Fin 48) {f : S460x6144.Idx → Elt F .fp8e4m3} (hf : codesV.view.read (Elt F) f = (codesOf e).view.read (Elt F) x.codes)
    {o : Fin 2 → ℕ} (ho : o = ![0, 128 * q.val]) (b : ∀ a, o a + S460x128.size a ≤ S460x6144.size a) :
    (codesV.access (Rect.unit (s := S460x6144) o S460x128.size b)).read (Elt F) f = chunkAt x e q := by
  subst ho
  have hff : ∀ i, f i = (codesOf e).view.read (Elt F) x.codes i := congrFun hf
  funext a
  have key : ∀ (r : Fin 460) (l : Fin 128), f ((Rect.unit (s := S460x6144) ![0, 128 * q.val] S460x128.size b).emb (ix2 r l)) = chunkAt x e q (ix2 r l) := by
    intro r l
    have : (Rect.unit (s := S460x6144) ![0, 128 * q.val] S460x128.size b).emb (ix2 r l) = (ix2 r (⟨128 * q.val + l.val, by omega⟩ : Fin 6144) : S460x6144.Idx) := by
      funext d; apply Fin.ext
      rw [Rect.emb_apply]
      fin_cases d <;> simp [ix2]
    rw [this, hff, codesOf_read]
    rfl
  have ha : a = ix2 (a 0) (a 1) := by funext d; fin_cases d <;> rfl
  rw [ha]
  exact key (a 0) (a 1)

theorem scales_row (x : Inp F) {e : Fin 5} {f : S5x460.Idx → Elt F .f32} (hf : scalesV.view.read (Elt F) f = scalesH.view.read (Elt F) x.scales)
    {o : Fin 2 → ℕ} (ho : o = ![e.val, 0]) (b : ∀ a, o a + S1x460.size a ≤ S5x460.size a) :
    (scalesV.access (Rect.unit (s := S5x460) o S1x460.size b)).read (Elt F) f = scRow x e := by
  subst ho
  have hf' : f = x.scales := hf
  subst hf'
  funext a
  have h0 : (a 0).val < 1 := (a 0).isLt
  show x.scales ((Rect.unit (s := S5x460) ![e.val, 0] S1x460.size b).emb a) = x.scales _
  congr 1; funext d; apply Fin.ext
  rw [Rect.emb_apply]
  fin_cases d <;> simp [ix2]
  omega

end Cert.KernelIdeal.Hand

end
-- ==== Proof.KernelIdeal.Rings.lean ====
/- The three rings of copies: what a slot holds, and the steps that start and wait for its copies. -/
module

public import proofs.«01_k».proof.Proof.KernelIdeal.Values

@[expose] public section

set_option maxRecDepth 16384

noncomputable section

namespace Cert.KernelIdeal.Hand

open Cert.KernelIdeal Cert.KernelIdeal.Gen Cert.Tile
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable (c : Dev nD) (x : Inp F)

/-! ## The ring of Hessian tiles read -/

/-- The read token of slot `k` on the elements `S` of the Hessian. -/
abbrev tokH (k : Fin 12) (S : Finset (Idx (hH.view.loc (c : Thread nD τ)))) : sProp (MM F) :=
  hH.view.loc (c : Thread nD τ) ↦[S]{Transfers.shareTok fullShare 12 k} x.hess

/-- Slot `k` with no copy in flight, or with the copy of step `s`'s tile in flight. -/
def hSt (k : Fin 12) : Option ℕ → sProp (MM F)
  | none => iprop(semVal ((c : Thread nD τ), SemLoc.dma (hSem k)) 0 ∗ heldAny c (hSlot k) ∗ tokH c x k Finset.univ)
  | some s => iprop(fly c (hBlk (tE s) (tI s) (tJ s)) (hSlot k) (hSem k) (Transfers.shareTok fullShare 12 k) x.hess
      ∗ tokH c x k (Finset.univ \ (hBlk (tE s) (tI s) (tJ s)).view.set))

theorem hSt_none (k : Fin 12) : hSt c x k none
    = iprop(semVal ((c : Thread nD τ), SemLoc.dma (hSem k)) 0 ∗ heldAny c (hSlot k) ∗ tokH c x k Finset.univ) := rfl
theorem hSt_some (k : Fin 12) (s : ℕ) : hSt c x k (some s)
    = iprop(fly c (hBlk (tE s) (tI s) (tJ s)) (hSlot k) (hSem k) (Transfers.shareTok fullShare 12 k) x.hess
      ∗ tokH c x k (Finset.univ \ (hBlk (tE s) (tI s) (tJ s)).view.set)) := rfl

/-- The ring with the steps `lo ≤ s < hi` in flight. -/
abbrev hRing (lo hi : ℕ) : sProp (MM F) := Ring.AtW (fun k => hSt c x k) (Ring.inWin lo hi 12)
/-- The ring but for step `lo`'s slot. -/
abbrev hRest (lo hi : ℕ) : sProp (MM F) := Ring.restW (fun k => hSt c x k) (Ring.inWin lo hi 12) (Ring.sl 12 lo)

theorem tokH_split (k : Fin 12) (S : Finset (Idx (hH.view.loc (c : Thread nD τ)))) :
    (tokH c x k Finset.univ : sProp (MM F)) ⊣⊢ iprop(tokH c x k S ∗ tokH c x k (Finset.univ \ S)) :=
  pointsTo_split_subset (Finset.subset_univ _)

/-- The copy of step `s`'s tile is started. -/
theorem h_issue {lo s : ℕ} (h1 : lo ≤ s) (h2 : s < lo + 12) {M' : Memref sig .tc .hbm S512x512 .f32} {D' : Memref sig .tc .vmem S512x512 .f32}
    {sm' : DmaSem sig} (hM : M' = hBlk (tE s) (tI s) (tJ s)) (hD : D' = hSlot (Ring.sl 12 s)) (hsm : sm' = hSem (Ring.sl 12 s)) (w1 w2 w3)
    (Q : PUnit → sProp (MM F)) :
    iprop(hRing c x lo s ∗ (hRing c x lo (s + 1) -∗ Q ⟨⟩))
      ⊢ wp frame (wpE (defs₀ (F := F)) Variants.none (c : Thread nD τ) none) Set.univ
        (Prog.lift (.enqueueDma M' (.here D') (.dma sm') w1 w2 w3)) Q := by
  unfold hRing
  rw [Ring.AtW_focus (fun k => hSt c x k) _ (Ring.sl 12 s), Ring.inWin_hi h1 h2, Ring.inWin_push h1 (by omega)]
  have hup := Ring.AtW_update (fun k => hSt c x k) (Ring.inWin lo s 12) (Ring.sl 12 s) (some s)
  beta_reduce at hup ⊢
  rw [hSt_some] at hup
  rw [hSt_none]
  iintro ⟨⟨Hs, Hr⟩, Hk⟩
  icases Hs with ⟨Hc, Hd, Ht⟩
  icases (tokH_split c x (Ring.sl 12 s) (hBlk (tE s) (tI s) (tJ s)).view.set).1 $$ Ht with ⟨Ht, Ht'⟩
  iapply (copy_start c hM hD hsm (Transfers.shareTok fullShare 12 (Ring.sl 12 s)) x.hess w1 w2 w3 (by show 0 < 32768; omega) Q)
  isplitl [Hc]
  · iexact Hc
  isplitl [Hd]
  · iexact Hd
  isplitl [Ht]
  · iexact Ht
  iintro Hf
  iapply Hk
  iapply hup
  isplitl [Hf Ht']
  · isplitl [Hf]
    · iexact Hf
    · iexact Ht'
  · iexact Hr

/-- The copy of step `s`'s tile is waited for: its slot holds the tile. -/
theorem h_await {s hi : ℕ} (h1 : s < hi) (h2 : hi ≤ s + 12) {M' : Memref sig .tc .hbm S512x512 .f32} {D' : Memref sig .tc .vmem S512x512 .f32}
    {sm' : DmaSem sig} (hM : M' = hBlk (tE s) (tI s) (tJ s)) (hD : D' = hSlot (Ring.sl 12 s)) (hsm : sm' = hSem (Ring.sl 12 s)) (w1 w2)
    (Q : PUnit → sProp (MM F)) :
    iprop(hRing c x s hi ∗ owing c ∗ ((heldAt c (hSlot (Ring.sl 12 s)) ((hBlk (tE s) (tI s) (tJ s)).view.read (Elt F) x.hess)
        ∗ (heldAny c (hSlot (Ring.sl 12 s)) -∗ hRing c x (s + 1) hi) ∗ owing c) -∗ Q ⟨⟩))
      ⊢ wp frame (wpE (defs₀ (F := F)) Variants.none (c : Thread nD τ) none) Set.univ
        (Prog.lift (.waitDma2 sm' M' D' w1 w2)) Q := by
  unfold hRing
  rw [Ring.AtW_focus (fun k => hSt c x k) (Ring.inWin s hi 12) (Ring.sl 12 s), Ring.inWin_lo h1 h2, Ring.inWin_pop h1 h2]
  have hup := Ring.AtW_update (fun k => hSt c x k) (Ring.inWin s hi 12) (Ring.sl 12 s) none
  beta_reduce at hup ⊢
  rw [hSt_none] at hup
  rw [hSt_some]
  iintro ⟨⟨Hs, Hr⟩, HW, Hk⟩
  icases Hs with ⟨Hf, Ht'⟩
  iapply (copy_wait c hM hD hsm (Transfers.shareTok fullShare 12 (Ring.sl 12 s)) x.hess w1 w2 Q)
  isplitl [Hf]
  · iexact Hf
  isplitl [HW]
  · iexact HW
  iintro ⟨Hc, Hd, Ht, HW⟩
  iapply Hk
  isplitl [Hd]
  · iexact Hd
  isplitr [HW]
  rotate_left
  · iexact HW
  iintro Hd
  iapply hup
  isplitr [Hr]
  rotate_left
  · iexact Hr
  isplitl [Hc]
  · iexact Hc
  isplitl [Hd]
  · iexact Hd
  iapply (tokH_split c x (Ring.sl 12 s) (hBlk (tE s) (tI s) (tJ s)).view.set).2
  isplitl [Ht]
  · iexact Ht
  · iexact Ht'

/-! ## The rings of tiles written -/

/-- Slot `k` of the ring of tiles written, free or with the copy of step `s`'s tile in flight. -/
def aSt (k : Fin 8) : Option ℕ → sProp (MM F)
  | none => iprop(semVal ((c : Thread nD τ), SemLoc.dma (aSem k)) 0 ∗ heldAny c (aSlot k))
  | some s => iprop(∃ f : BufOf F c (aSlot k), ⌜(aSlot k).view.read (Elt F) f = tileS x s⌝
      ∗ fly c (aSlot k) (oBlk (tE s) (tI s) (tJ s)) (aSem k) fullShare f)
/-- Slot `k` of the ring of transposed tiles written: a diagonal tile is not copied a second time. -/
def bSt (k : Fin 8) : Option ℕ → sProp (MM F)
  | none => iprop(semVal ((c : Thread nD τ), SemLoc.dma (bSem k)) 0 ∗ heldAny c (bSlot k))
  | some s => if (tI s).val = (tJ s).val then iprop(semVal ((c : Thread nD τ), SemLoc.dma (bSem k)) 0 ∗ heldAny c (bSlot k))
      else iprop(∃ f : BufOf F c (bSlot k), ⌜(bSlot k).view.read (Elt F) f = tileTS x s⌝
        ∗ fly c (bSlot k) (oBlk (tE s) (tJ s) (tI s)) (bSem k) fullShare f)
theorem aSt_none (k : Fin 8) : aSt c x k none = iprop(semVal ((c : Thread nD τ), SemLoc.dma (aSem k)) 0 ∗ heldAny c (aSlot k)) := rfl
theorem aSt_some (k : Fin 8) (s : ℕ) : aSt c x k (some s) = iprop(∃ f : BufOf F c (aSlot k), ⌜(aSlot k).view.read (Elt F) f = tileS x s⌝
      ∗ fly c (aSlot k) (oBlk (tE s) (tI s) (tJ s)) (aSem k) fullShare f) := rfl
theorem bSt_none (k : Fin 8) : bSt c x k none = iprop(semVal ((c : Thread nD τ), SemLoc.dma (bSem k)) 0 ∗ heldAny c (bSlot k)) := rfl
theorem bSt_diag (k : Fin 8) (s : ℕ) (he : (tI s).val = (tJ s).val) :
    bSt c x k (some s) = iprop(semVal ((c : Thread nD τ), SemLoc.dma (bSem k)) 0 ∗ heldAny c (bSlot k)) := if_pos he
theorem bSt_off (k : Fin 8) (s : ℕ) (he : (tI s).val ≠ (tJ s).val) :
    bSt c x k (some s) = iprop(∃ f : BufOf F c (bSlot k), ⌜(bSlot k).view.read (Elt F) f = tileTS x s⌝
        ∗ fly c (bSlot k) (oBlk (tE s) (tJ s) (tI s)) (bSem k) fullShare f) := if_neg he
/-- The ring of tiles with the steps `lo ≤ s < hi` in flight. -/
abbrev aRing (lo hi : ℕ) : sProp (MM F) := Ring.AtW (fun k => aSt c x k) (Ring.inWin lo hi 8)
/-- The ring of transposed tiles with the steps `lo ≤ s < hi` in flight. -/
abbrev bRing (lo hi : ℕ) : sProp (MM F) := Ring.AtW (fun k => bSt c x k) (Ring.inWin lo hi 8)

/-- Step `s`'s slot is free: it is set apart. -/
theorem a_take {lo s : ℕ} (h1 : lo ≤ s) (h2 : s < lo + 8) :
    aRing c x lo s ⊢ iprop((semVal ((c : Thread nD τ), SemLoc.dma (aSem (Ring.sl 8 s))) 0 ∗ heldAny c (aSlot (Ring.sl 8 s)))
      ∗ ((∃ f : BufOf F c (aSlot (Ring.sl 8 s)), ⌜(aSlot (Ring.sl 8 s)).view.read (Elt F) f = tileS x s⌝
        ∗ fly c (aSlot (Ring.sl 8 s)) (oBlk (tE s) (tI s) (tJ s)) (aSem (Ring.sl 8 s)) fullShare f) -∗ aRing c x lo (s + 1))) := by
  unfold aRing
  rw [Ring.AtW_focus (fun k => aSt c x k) _ (Ring.sl 8 s), Ring.inWin_hi h1 h2, Ring.inWin_push h1 (by omega)]
  have hup := Ring.AtW_update (fun k => aSt c x k) (Ring.inWin lo s 8) (Ring.sl 8 s) (some s)
  beta_reduce at hup ⊢
  rw [aSt_some] at hup
  rw [aSt_none]
  iintro ⟨Hs, Hr⟩
  isplitl [Hs]
  · iexact Hs
  iintro Hf
  iapply hup
  isplitl [Hf]
  · iexact Hf
  · iexact Hr

/-- Step `s`'s slot of transposed tiles is free: it is set apart. -/
theorem b_take {lo s : ℕ} (h1 : lo ≤ s) (h2 : s < lo + 8) :
    bRing c x lo s ⊢ iprop((semVal ((c : Thread nD τ), SemLoc.dma (bSem (Ring.sl 8 s))) 0 ∗ heldAny c (bSlot (Ring.sl 8 s)))
      ∗ (bSt c x (Ring.sl 8 s) (some s) -∗ bRing c x lo (s + 1))) := by
  unfold bRing
  rw [Ring.AtW_focus (fun k => bSt c x k) _ (Ring.sl 8 s), Ring.inWin_hi h1 h2, Ring.inWin_push h1 (by omega)]
  have hup := Ring.AtW_update (fun k => bSt c x k) (Ring.inWin lo s 8) (Ring.sl 8 s) (some s)
  beta_reduce at hup ⊢
  rw [bSt_none]
  iintro ⟨Hs, Hr⟩
  isplitl [Hs]
  · iexact Hs
  iintro Hf
  iapply hup
  isplitl [Hf]
  · iexact Hf
  · iexact Hr

/-- The copy out of step `s`'s tile is waited for. -/
theorem a_await {s hi : ℕ} (h1 : s < hi) (h2 : hi ≤ s + 8) {M' : Memref sig .tc .vmem S512x512 .f32} {D' : Memref sig .tc .hbm S512x512 .f32}
    {sm' : DmaSem sig} (hM : M' = aSlot (Ring.sl 8 s)) (hD : D' = oBlk (tE s) (tI s) (tJ s)) (hsm : sm' = aSem (Ring.sl 8 s)) (w1 w2)
    (Q : PUnit → sProp (MM F)) :
    iprop(aRing c x s hi ∗ owing c ∗ ((heldAt c (oBlk (tE s) (tI s) (tJ s)) (tileS x s) ∗ aRing c x (s + 1) hi ∗ owing c) -∗ Q ⟨⟩))
      ⊢ wp frame (wpE (defs₀ (F := F)) Variants.none (c : Thread nD τ) none) Set.univ
        (Prog.lift (.waitDma2 sm' M' D' w1 w2)) Q := by
  unfold aRing
  rw [Ring.AtW_focus (fun k => aSt c x k) (Ring.inWin s hi 8) (Ring.sl 8 s), Ring.inWin_lo h1 h2, Ring.inWin_pop h1 h2]
  have hup := Ring.AtW_update (fun k => aSt c x k) (Ring.inWin s hi 8) (Ring.sl 8 s) none
  beta_reduce at hup ⊢
  rw [aSt_none] at hup
  rw [aSt_some]
  iintro ⟨⟨⟨%f, %hf, Hf⟩, Hr⟩, HW, Hk⟩
  iapply (copy_wait c hM hD hsm fullShare f w1 w2 Q)
  isplitl [Hf]
  · iexact Hf
  isplitl [HW]
  · iexact HW
  rw [hf]
  iintro ⟨Hc, Hd, Ht, HW⟩
  iapply Hk
  isplitl [Hd]
  · iexact Hd
  isplitr [HW]
  rotate_left
  · iexact HW
  iapply hup
  isplitr [Hr]
  rotate_left
  · iexact Hr
  isplitl [Hc]
  · iexact Hc
  iexists f
  iexact Ht

/-- Off the diagonal, the copy out of step `s`'s transposed tile is waited for. -/
theorem b_await {s hi : ℕ} (h1 : s < hi) (h2 : hi ≤ s + 8) (hne : (tI s).val ≠ (tJ s).val) {M' : Memref sig .tc .vmem S512x512 .f32} {D' : Memref sig .tc .hbm S512x512 .f32}
    {sm' : DmaSem sig} (hM : M' = bSlot (Ring.sl 8 s)) (hD : D' = oBlk (tE s) (tJ s) (tI s)) (hsm : sm' = bSem (Ring.sl 8 s)) (w1 w2)
    (Q : PUnit → sProp (MM F)) :
    iprop(bRing c x s hi ∗ owing c ∗ ((heldAt c (oBlk (tE s) (tJ s) (tI s)) (tileTS x s) ∗ bRing c x (s + 1) hi ∗ owing c) -∗ Q ⟨⟩))
      ⊢ wp frame (wpE (defs₀ (F := F)) Variants.none (c : Thread nD τ) none) Set.univ
        (Prog.lift (.waitDma2 sm' M' D' w1 w2)) Q := by
  unfold bRing
  rw [Ring.AtW_focus (fun k => bSt c x k) (Ring.inWin s hi 8) (Ring.sl 8 s), Ring.inWin_lo h1 h2, Ring.inWin_pop h1 h2]
  have hup := Ring.AtW_update (fun k => bSt c x k) (Ring.inWin s hi 8) (Ring.sl 8 s) none
  beta_reduce at hup ⊢
  rw [bSt_none] at hup
  rw [bSt_off c x _ s hne]
  iintro ⟨⟨⟨%f, %hf, Hf⟩, Hr⟩, HW, Hk⟩
  iapply (copy_wait c hM hD hsm fullShare f w1 w2 Q)
  isplitl [Hf]
  · iexact Hf
  isplitl [HW]
  · iexact HW
  rw [hf]
  iintro ⟨Hc, Hd, Ht, HW⟩
  iapply Hk
  isplitl [Hd]
  · iexact Hd
  isplitr [HW]
  rotate_left
  · iexact HW
  iapply hup
  isplitr [Hr]
  rotate_left
  · iexact Hr
  isplitl [Hc]
  · iexact Hc
  iexists f
  iexact Ht

/-- On the diagonal there is no second copy to wait for. -/
theorem b_skip {s hi : ℕ} (h1 : s < hi) (h2 : hi ≤ s + 8) (he : (tI s).val = (tJ s).val) : bRing c x s hi ⊢ bRing c x (s + 1) hi := by
  unfold bRing
  rw [Ring.AtW_focus (fun k => bSt c x k) (Ring.inWin s hi 8) (Ring.sl 8 s), Ring.inWin_lo h1 h2, Ring.inWin_pop h1 h2]
  have hup := Ring.AtW_update (fun k => bSt c x k) (Ring.inWin s hi 8) (Ring.sl 8 s) none
  beta_reduce at hup ⊢
  rw [bSt_none] at hup
  rw [bSt_diag c x _ s he]
  exact hup

end Cert.KernelIdeal.Hand

end
-- ==== Proof.KernelIdeal.Parts.lean ====
/- A trip of the kernel's main loop cut at its conditional steps: each conditional step under a name of its own, and the trip's
   parts as sequences of them. -/
module

public import proofs.«01_k».proof.Proof.KernelIdeal.Ops

@[expose] public section

set_option maxRecDepth 16384

noncomputable section

namespace Cert.KernelIdeal.Hand

open Cert.KernelIdeal Cert.KernelIdeal.Gen Cert.Tile
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

theorem dite_bind {α β : Type} {c : Prop} [Decidable c] (A : c → Prog (TpuEff nD τ sig (Elt F) Λ₀ .tc) α) (B : ¬ c → Prog (TpuEff nD τ sig (Elt F) Λ₀ .tc) α)
    (K : α → Prog (TpuEff nD τ sig (Elt F) Λ₀ .tc) β) : (dite c A B >>= K) = dite c (fun h => A h >>= K) (fun h => B h >>= K) := by
  by_cases h : c
  · rw [dif_pos h, dif_pos h]
  · rw [dif_neg h, dif_neg h]

set_option maxHeartbeats 4000000

/-- The wait for an expert's codes. -/
noncomputable def pA2 (e i j : BitVec 32) (k0_hw2 : k0_chk2 e i j) (k0_h1 : k0_cond1 i = 1#1) : Prog (TpuEff nD τ sig (Elt F) Λ₀ .tc) PUnit := do
  if k0_h2 : k0_cond2 j = 1#1 then do
    let v177 : Memref sig .tc .hbm S1x460x6144 .fp8e4m3 := codesH.slice (Rect.unit (s := S5x460x6144) (k0_off4 e) S1x460x6144.size (k0_off4_inb e i j k0_hw2 k0_h1 k0_h2)) (fun _ => rfl)
    let v178 : Memref sig .tc .hbm S460x6144 .fp8e4m3 := v177.squeeze S460x6144 squeezes_S1x460x6144_S460x6144
    Prog.lift (.waitDma2 cc0_scratch6.sem v178 codesV (((Memref.isWhole_whole _).wordExact_slice rfl _ (k0_off4_wordsfp8e4m3 e i j k0_hw2 k0_h1 k0_h2)).reshape _ _) (Memref.isWhole_whole _).wordExact)
    pure ⟨⟩
  else do
    pure ⟨⟩

/-- The request for the next expert's codes. -/
noncomputable def pA3 (e i j : BitVec 32) (k0_hw2 : k0_chk2 e i j) (k0_h1 : k0_cond1 i = 1#1) : Prog (TpuEff nD τ sig (Elt F) Λ₀ .tc) PUnit := do
  if k0_h3 : k0_cond3 e j = 1#1 then do
    let v178 : Memref sig .tc .hbm S1x460x6144 .fp8e4m3 := codesH.slice (Rect.unit (s := S5x460x6144) (k0_off9 e) S1x460x6144.size (k0_off9_inb e i j k0_hw2 k0_h1 k0_h3)) (fun _ => rfl)
    let v179 : Memref sig .tc .hbm S460x6144 .fp8e4m3 := v178.squeeze S460x6144 squeezes_S1x460x6144_S460x6144
    Prog.lift (.enqueueDma v179 (.here codesV) (.dma cc0_scratch6.sem) (((Memref.isWhole_whole _).wordExact_slice rfl _ (k0_off9_wordsfp8e4m3 e i j k0_hw2 k0_h1 k0_h3)).reshape _ _) (Memref.isWhole_whole _).wordExact ⟨Or.inl rfl, trivial⟩)
    pure ⟨⟩
  else do
    pure ⟨⟩

/-- Trip `k` before the products: at a row of blocks' start the expert's codes arrive and one block of them is made dequantised rows;
    at its end the next expert's are asked for. -/
noncomputable def pA (k : Fin k0_t2_loop.trips) (e i j e2 i2 j2 e3 i3 j3 : BitVec 32) (k0_hw3 : k0_chk3 e i) (k0_hw2 : k0_chk2 e i j) : Prog (TpuEff nD τ sig (Elt F) Λ₀ .tc) PUnit := do
  if k0_h1 : k0_cond1 i = 1#1 then do
    pA2 e i j k0_hw2 k0_h1
    let v161 : Vec F S1x460 .f32 ← Prog.lift (.load scalesV (Rect.unit (s := S5x460) (k0_off5 e) S1x460.size (k0_off5_inb e i k0_hw3 k0_h1)).toLoadRect (View.loadsAt_vmem h_S1x460))
    let v167 : Elt F .i32 ← smemLoad sizesM (Rect.unit (s := S5) (k0_off6 e) S1.size (k0_off6_inb e i k0_hw3 k0_h1)) numel1_S1 rfl
    Scf.Loop.for k0_t3_loop k0_t3_ok ⟨⟩ (k0_t3_body sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10 0#32 1#32 k e i j e2 i2 j2 e3 i3 j3 k0_hw2 k0_h1 v161 v167)
    pA3 e i j k0_hw2 k0_h1
    pure ⟨⟩
  else do
    pure ⟨⟩

/-- The wait for the transposed tile written eight trips before. -/
noncomputable def pB5 (k : Fin k0_t2_loop.trips) (e3 i3 j3 : BitVec 32) (k0_hw4 : k0_chk4 k e3 i3 j3) (k0_h4 : k0_cond4 k = 1#1) : Prog (TpuEff nD τ sig (Elt F) Λ₀ .tc) PUnit := do
  if k0_h5 : k0_cond5 i3 j3 = 1#1 then do
    let v169 : DmaSems sig S1 := cc0_scratch10.slice (Rect.unit (s := S8) (k0_off13 k) S1.size (k0_off13_inb k k0_h4))
    let v170 : DmaSems sig S_ := v169.squeeze S_ squeezes_S1_S_
    let v171 : Memref sig .tc .hbm S1x512x512 .f32 := outH.slice (Rect.unit (s := S5x6144x6144) (k0_off14 e3 i3 j3) S1x512x512.size (k0_off14_inb k e3 i3 j3 k0_hw4 k0_h4 k0_h5)) (fun _ => rfl)
    let v172 : Memref sig .tc .hbm S512x512 .f32 := v171.squeeze S512x512 squeezes_S1x512x512_S512x512
    let v173 : Memref sig .tc .vmem S1x512x512 .f32 := bV.slice (Rect.unit (s := S8x512x512) (k0_off15 k) S1x512x512.size (k0_off15_inb k k0_h4)) (fun _ => rfl)
    let v174 : Memref sig .tc .vmem S512x512 .f32 := v173.squeeze S512x512 squeezes_S1x512x512_S512x512
    Prog.lift (.waitDma2 v170.sem v174 v172 ((View.wordExact_bits rfl).reshape _ _) ((View.wordExact_bits rfl).reshape _ _))
    pure ⟨⟩
  else do
    pure ⟨⟩

/-- Trip `k`'s wait for the tiles written eight trips before. -/
noncomputable def pB (k : Fin k0_t2_loop.trips) (e3 i3 j3 : BitVec 32) (k0_hw4 : k0_chk4 k e3 i3 j3) : Prog (TpuEff nD τ sig (Elt F) Λ₀ .tc) PUnit := do
  if k0_h4 : k0_cond4 k = 1#1 then do
    let v158 : DmaSems sig S1 := cc0_scratch9.slice (Rect.unit (s := S8) (k0_off10 k) S1.size (k0_off10_inb k k0_h4))
    let v159 : DmaSems sig S_ := v158.squeeze S_ squeezes_S1_S_
    let v160 : Memref sig .tc .hbm S1x512x512 .f32 := outH.slice (Rect.unit (s := S5x6144x6144) (k0_off11 e3 i3 j3) S1x512x512.size (k0_off11_inb k e3 i3 j3 k0_hw4 k0_h4)) (fun _ => rfl)
    let v161 : Memref sig .tc .hbm S512x512 .f32 := v160.squeeze S512x512 squeezes_S1x512x512_S512x512
    let v162 : Memref sig .tc .vmem S1x512x512 .f32 := aV.slice (Rect.unit (s := S8x512x512) (k0_off12 k) S1x512x512.size (k0_off12_inb k k0_h4)) (fun _ => rfl)
    let v163 : Memref sig .tc .vmem S512x512 .f32 := v162.squeeze S512x512 squeezes_S1x512x512_S512x512
    Prog.lift (.waitDma2 v159.sem v163 v161 ((View.wordExact_bits rfl).reshape _ _) ((View.wordExact_bits rfl).reshape _ _))
    pB5 k e3 i3 j3 k0_hw4 k0_h4
    pure ⟨⟩
  else do
    pure ⟨⟩

theorem part1_eq (k : Fin k0_t2_loop.trips) (e i j e2 i2 j2 e3 i3 j3 : BitVec 32) :
    k0_part1 (F := F) sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10 0#32 1#32 k e i j e2 i2 j2 e3 i3 j3 = (do
    have k0_hw6 : k0_chk6 k e2 i2 j2 := (← Prog.lift (TpuEff.assume (k0_chk6 k e2 i2 j2) (k0_chk6.dec k e2 i2 j2))).down
    have k0_hw5 : k0_chk5 e := (← Prog.lift (TpuEff.assume (k0_chk5 e) (k0_chk5.dec e))).down
    have k0_hw4 : k0_chk4 k e3 i3 j3 := (← Prog.lift (TpuEff.assume (k0_chk4 k e3 i3 j3) (k0_chk4.dec k e3 i3 j3))).down
    have k0_hw3 : k0_chk3 e i := (← Prog.lift (TpuEff.assume (k0_chk3 e i) (k0_chk3.dec e i))).down
    have k0_hw2 : k0_chk2 e i j := (← Prog.lift (TpuEff.assume (k0_chk2 e i j) (k0_chk2.dec e i j))).down
    let arg18 : BitVec 32 := Scf.iv 0#32 1#32 k
    let v28 : BitVec 32 := Scalar.remsi arg18 12#32
    let v29 : BitVec 32 := Scalar.remsi arg18 8#32
    pA k e i j e2 i2 j2 e3 i3 j3 k0_hw3 k0_hw2
    pB k e3 i3 j3 k0_hw4
    let v38 : DmaSems sig S1 := cc0_scratch8.slice (Rect.unit (s := S12) (k0_off16 k) S1.size (k0_off16_inb k))
    let v39 : DmaSems sig S_ := v38.squeeze S_ squeezes_S1_S_
    let v40 : Memref sig .tc .vmem S1x512x512 .f32 := hV.slice (Rect.unit (s := S12x512x512) (k0_off17 k) S1x512x512.size (k0_off17_inb k)) (fun _ => rfl)
    let v41 : Memref sig .tc .vmem S512x512 .f32 := v40.squeeze S512x512 squeezes_S1x512x512_S512x512
    let v42 : Memref sig .tc .hbm S1x512x512 .f32 := hH.slice (Rect.unit (s := S5x6144x6144) (k0_off18 e i j) S1x512x512.size (k0_off18_inb e i j k0_hw2)) (fun _ => rfl)
    let v43 : Memref sig .tc .hbm S512x512 .f32 := v42.squeeze S512x512 squeezes_S1x512x512_S512x512
    Prog.lift (.waitDma2 v39.sem v43 v41 ((View.wordExact_bits rfl).reshape _ _) ((View.wordExact_bits rfl).reshape _ _))
    let v45 : Elt F .i32 ← smemLoad countsM (Rect.unit (s := S5) (k0_off19 e) S1.size (k0_off19_inb e k0_hw5)) numel1_S1 rfl
    let v48 : Elt F .i32 ← smemLoad sizesM (Rect.unit (s := S5) (k0_off19 e) S1.size (k0_off19_inb e k0_hw5)) numel1_S1 rfl
    let v58 : BitVec 32 := Scalar.muli i 512#32
    let v59 : BitVec 32 := v58
    let v60 : BitVec 32 := Scalar.muli j 512#32
    let v61 : BitVec 32 := Scalar.addi v60 0#32
    let v62 : BitVec 32 := v61
    pure ⟨k0_hw6, k0_hw3, k0_hw2, arg18, v28, v29, k0_pay4 v45 v48, k0_pay5 v45 v48, v59, v62⟩) := by
  rw [k0_part1_eq_skeleton]
  unfold k0_part1_skel pA pB pA2 pA3 pB5
  simp only [dite_bind, bind_assoc, pure_bind]

/-- Trip `k`'s request for the tile twelve trips ahead. -/
noncomputable def pD (k : Fin k0_t2_loop.trips) (e2 i2 j2 : BitVec 32) (k0_hw6 : k0_chk6 k e2 i2 j2) : Prog (TpuEff nD τ sig (Elt F) Λ₀ .tc) PUnit := do
  if k0_h6 : k0_cond6 k = 1#1 then do
    let v158 : DmaSems sig S1 := cc0_scratch8.slice (Rect.unit (s := S12) (k0_off28 k) S1.size (k0_off28_inb k k0_h6))
    let v159 : DmaSems sig S_ := v158.squeeze S_ squeezes_S1_S_
    let v160 : Memref sig .tc .vmem S1x512x512 .f32 := hV.slice (Rect.unit (s := S12x512x512) (k0_off29 k) S1x512x512.size (k0_off29_inb k k0_h6)) (fun _ => rfl)
    let v161 : Memref sig .tc .vmem S512x512 .f32 := v160.squeeze S512x512 squeezes_S1x512x512_S512x512
    let v162 : Memref sig .tc .hbm S1x512x512 .f32 := hH.slice (Rect.unit (s := S5x6144x6144) (k0_off30 e2 i2 j2) S1x512x512.size (k0_off30_inb k e2 i2 j2 k0_hw6 k0_h6)) (fun _ => rfl)
    let v163 : Memref sig .tc .hbm S512x512 .f32 := v162.squeeze S512x512 squeezes_S1x512x512_S512x512
    Prog.lift (.enqueueDma v163 (.here v161) (.dma v159.sem) ((View.wordExact_bits rfl).reshape _ _) ((View.wordExact_bits rfl).reshape _ _) ⟨Or.inl rfl, trivial⟩)
    pure ⟨⟩
  else do
    pure ⟨⟩

/-- Trip `k`'s copy out of the transposed tile. -/
noncomputable def pE (k : Fin k0_t2_loop.trips) (e i j : BitVec 32) (k0_hw2 : k0_chk2 e i j) : Prog (TpuEff nD τ sig (Elt F) Λ₀ .tc) PUnit := do
  if k0_h7 : k0_cond7 i j = 1#1 then do
    let v158 : DmaSems sig S1 := cc0_scratch10.slice (Rect.unit (s := S8) (k0_off34 k) S1.size (k0_off34_inb k))
    let v159 : DmaSems sig S_ := v158.squeeze S_ squeezes_S1_S_
    let v160 : Memref sig .tc .hbm S1x512x512 .f32 := outH.slice (Rect.unit (s := S5x6144x6144) (k0_off35 e i j) S1x512x512.size (k0_off35_inb e i j k0_hw2 k0_h7)) (fun _ => rfl)
    let v161 : Memref sig .tc .hbm S512x512 .f32 := v160.squeeze S512x512 squeezes_S1x512x512_S512x512
    let v162 : Memref sig .tc .vmem S1x512x512 .f32 := bV.slice (Rect.unit (s := S8x512x512) (k0_off36 k) S1x512x512.size (k0_off36_inb k)) (fun _ => rfl)
    let v163 : Memref sig .tc .vmem S512x512 .f32 := v162.squeeze S512x512 squeezes_S1x512x512_S512x512
    Prog.lift (.enqueueDma v163 (.here v161) (.dma v159.sem) ((View.wordExact_bits rfl).reshape _ _) ((View.wordExact_bits rfl).reshape _ _) ⟨Or.inl rfl, trivial⟩)
    pure ⟨⟩
  else do
    pure ⟨⟩

theorem part3_eq (k : Fin k0_t2_loop.trips) (e i j e2 i2 j2 e3 i3 j3 : BitVec 32) (k0_hw6 : k0_chk6 k e2 i2 j2) (k0_hw2 : k0_chk2 e i j) (arg18 v29 : BitVec 32)
    (v100 : FVec F S512x256 .f32) (v104 : FVec F S1x512x256 .f32) :
    k0_part3 (F := F) sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10 k e i j e2 i2 j2 e3 i3 j3 k0_hw6 k0_hw2 arg18 v29 v100 v104 = (do
    Prog.lift (.store aV (Rect.unit (s := S8x512x512) (k0_off26 k) S1x512x256.size (k0_off26_inb k)) v104 Finset.univ (View.stores_vmem_bits_univ h_S1x512x256 rfl) (.inl rfl))
    let v107 : Vec F S1x256x512 .f32 ← Prog.lift (.load bV (Rect.unit (s := S8x512x512) (k0_off27 k) S1x256x512.size (k0_off27_inb k)).toLoadRect (View.loadsAt_vmem h_S1x256x512))
    Prog.lift (.store bV (Rect.unit (s := S8x512x512) (k0_off27 k) S1x256x512.size (k0_off27_inb k)) (k0_pay11 v100) Finset.univ (View.stores_vmem_bits_univ h_S1x256x512 rfl) (.inl rfl))
    pD k e2 i2 j2 k0_hw6
    let v116 : DmaSems sig S1 := cc0_scratch9.slice (Rect.unit (s := S8) (k0_off31 k) S1.size (k0_off31_inb k))
    let v117 : DmaSems sig S_ := v116.squeeze S_ squeezes_S1_S_
    let v118 : Memref sig .tc .hbm S1x512x512 .f32 := outH.slice (Rect.unit (s := S5x6144x6144) (k0_off32 e i j) S1x512x512.size (k0_off32_inb e i j k0_hw2)) (fun _ => rfl)
    let v119 : Memref sig .tc .hbm S512x512 .f32 := v118.squeeze S512x512 squeezes_S1x512x512_S512x512
    let v120 : Memref sig .tc .vmem S1x512x512 .f32 := aV.slice (Rect.unit (s := S8x512x512) (k0_off33 k) S1x512x512.size (k0_off33_inb k)) (fun _ => rfl)
    let v121 : Memref sig .tc .vmem S512x512 .f32 := v120.squeeze S512x512 squeezes_S1x512x512_S512x512
    Prog.lift (.enqueueDma v121 (.here v119) (.dma v117.sem) ((View.wordExact_bits rfl).reshape _ _) ((View.wordExact_bits rfl).reshape _ _) ⟨Or.inl rfl, trivial⟩)
    pE k e i j k0_hw2
    let v125 : BitVec 32 := Scalar.addi j3 1#32
    let v126 : BitVec 1 := Scalar.cmpi .eq v125 12#32
    let v127 : BitVec 32 := Scalar.addi i3 1#32
    let v128 : BitVec 32 := Scalar.select v126 v127 i3
    let v129 : BitVec 1 := Scalar.cmpi .eq v128 12#32
    let v130 : BitVec 32 := Scalar.select v129 0#32 v128
    let v131 : BitVec 32 := Scalar.select v126 v130 v125
    let v132 : BitVec 32 := Scalar.addi e3 1#32
    let v133 : BitVec 32 := Scalar.select v129 v132 e3
    let v134 : BitVec 1 := Scalar.cmpi .sge arg18 8#32
    let v135 : BitVec 32 := Scalar.select v134 v133 e3
    let v136 : BitVec 32 := Scalar.select v134 v130 i3
    let v137 : BitVec 32 := Scalar.select v134 v131 j3
    let v138 : BitVec 32 := Scalar.addi j 1#32
    let v139 : BitVec 1 := Scalar.cmpi .eq v138 12#32
    pure ⟨v135, v136, v137, v138, v139, 1#32⟩) := by
  rw [k0_part3_eq_skeleton]
  unfold k0_part3_skel pD pE
  simp only [dite_bind, bind_assoc, pure_bind]

end Cert.KernelIdeal.Hand

end
-- ==== Proof.KernelIdeal.Codes.lean ====
/- The part of a trip before the products: the experts' codes arriving and being made dequantised rows. -/
module

public import proofs.«01_k».proof.Proof.KernelIdeal.Slots
public import proofs.«01_k».proof.Proof.KernelIdeal.Rings
public import proofs.«01_k».proof.Proof.KernelIdeal.Parts

@[expose] public section

set_option maxRecDepth 16384

noncomputable section

namespace Cert.KernelIdeal.Hand

open Cert.KernelIdeal Cert.KernelIdeal.Gen Cert.Tile
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable (c : Dev nD) (x : Inp F)

/-- The kernel's weakest precondition. -/
abbrev WP {α : Type} (p : Prog (TpuEff nD τ sig (Elt F) Λ₀ .tc) α) (Q : α → sProp (MM F)) : sProp (MM F) :=
  wp frame (wpE (defs₀ (F := F)) Variants.none (c : Thread nD τ) none) Set.univ p Q

theorem WP_bindE {α β : Type} (p : Prog (TpuEff nD τ sig (Elt F) Λ₀ .tc) α) (k : α → Prog (TpuEff nD τ sig (Elt F) Λ₀ .tc) β) (Q : β → sProp (MM F)) :
    WP c (p >>= k) Q = WP c p (fun a => WP c (k a) Q) := wp_bind frame _ _ _ _ _

theorem WP_bind {α β : Type} (p : Prog (TpuEff nD τ sig (Elt F) Λ₀ .tc) α) (k : α → Prog (TpuEff nD τ sig (Elt F) Λ₀ .tc) β) (Q : β → sProp (MM F)) :
    WP c p (fun a => WP c (k a) Q) ⊢ WP c (p >>= k) Q := by rw [WP_bindE]

theorem WP_pure {α : Type} (a : α) (Q : α → sProp (MM F)) : Q a ⊢ WP c (pure a) Q := le_wp_ret frame _ _ a Q

/-! ## Words read -/

/-- A word read from a table held whole. -/
theorem word_op (M : Memref sig .tc .smem S5 .i32) (r : Rect S5) (q : PosShare TreeShare) (f : BufOf F c M) (h1 : r.shape.numel = 1) (hp : EltTy.i32.packing = 1) (Q : _ → sProp (MM F)) :
    iprop((M.view.loc (c : Thread nD τ) ↦[Finset.univ]{q} f) ∗ ((M.view.loc (c : Thread nD τ) ↦[Finset.univ]{q} f)
        -∗ Q ((M.access r).read (Elt F) f (Shape.Idx.first (h1.symm ▸ Nat.one_pos)))))
      ⊢ WP c (smemLoad M r h1 hp) Q := by
  iintro ⟨H, Hk⟩
  unfold smemLoad
  iapply (wp_smemLoadElt Variants.none (c : Thread nD τ) none Set.univ (m := M) (r := r) (S := Finset.univ) (Finset.subset_univ _)) $$ H
  iintro H
  iapply (le_wp_ret frame _ _ _ Q)
  iapply Hk
  iexact H

theorem word_val {e : Fin 5} {o : Fin 1 → ℕ} (ho : o = ![e.val]) (b : ∀ a, o a + S1.size a ≤ S5.size a) (f : S5.Idx → Elt F .i32)
    (z : S1.Idx) : f ((Rect.unit (s := S5) o S1.size b).emb z) = f (ix1 e) := by
  subst ho
  congr 1; funext d; apply Fin.ext
  rw [Rect.emb_apply]
  have h0 : (z 0).val < 1 := (z 0).isLt
  fin_cases d
  simp [ix1]
  omega

/-- The experts' numbers of rows. -/
abbrev sizesP : sProp (MM F) := sizesM.view.loc (c : Thread nD τ) ↦[Finset.univ]{fullShare} x.sizes
/-- The experts' numbers of rows seen before. -/
abbrev countsP : sProp (MM F) := countsM.view.loc (c : Thread nD τ) ↦[Finset.univ]{fullShare} x.counts

theorem sizes_word {e : Fin 5} {o : Fin 1 → ℕ} (ho : o = ![e.val]) (b : ∀ a, o a + S1.size a ≤ S5.size a) (h1 : (Rect.unit (s := S5) o S1.size b).shape.numel = 1) (hp : EltTy.i32.packing = 1) (Q : _ → sProp (MM F)) :
    iprop(sizesP c x ∗ (sizesP c x -∗ Q (x.sizes (ix1 e)))) ⊢ WP c (smemLoad sizesM (Rect.unit (s := S5) o S1.size b) h1 hp) Q := by
  have h := word_op c sizesM (Rect.unit (s := S5) o S1.size b) fullShare x.sizes h1 hp Q
  have hv : (sizesM.access (Rect.unit (s := S5) o S1.size b)).read (Elt F) x.sizes (Shape.Idx.first (h1.symm ▸ Nat.one_pos)) = x.sizes (ix1 e) :=
    word_val ho b x.sizes _
  rw [hv] at h
  exact h

theorem counts_word {e : Fin 5} {o : Fin 1 → ℕ} (ho : o = ![e.val]) (b : ∀ a, o a + S1.size a ≤ S5.size a) (h1 : (Rect.unit (s := S5) o S1.size b).shape.numel = 1) (hp : EltTy.i32.packing = 1) (Q : _ → sProp (MM F)) :
    iprop(countsP c x ∗ (countsP c x -∗ Q (x.counts (ix1 e)))) ⊢ WP c (smemLoad countsM (Rect.unit (s := S5) o S1.size b) h1 hp) Q := by
  have h := word_op c countsM (Rect.unit (s := S5) o S1.size b) fullShare x.counts h1 hp Q
  have hv : (countsM.access (Rect.unit (s := S5) o S1.size b)).read (Elt F) x.counts (Shape.Idx.first (h1.symm ▸ Nat.one_pos)) = x.counts (ix1 e) :=
    word_val ho b x.counts _
  rw [hv] at h
  exact h

/-! ## The states of the codes -/

/-- All the codes, on the elements `S`. -/
abbrev codesP (S : Finset (Idx (codesH.view.loc (c : Thread nD τ)))) : sProp (MM F) :=
  codesH.view.loc (c : Thread nD τ) ↦[S]{fullShare} x.codes
/-- No copy of codes is in flight. -/
def codesFree : sProp (MM F) :=
  iprop(semVal ((c : Thread nD τ), SemLoc.dma codesSem) 0 ∗ heldAny c codesV ∗ codesP c x Finset.univ)
/-- Expert `e`'s codes are in flight. -/
def codesFlyF (e : Fin 5) : sProp (MM F) :=
  iprop(fly c (codesOf e) codesV codesSem fullShare x.codes ∗ codesP c x (Finset.univ \ (codesOf e).view.set))
/-- Expert `n`'s codes are in flight, if there is such an expert. -/
def codesFly (n : ℕ) : sProp (MM F) := if h : n < 5 then codesFlyF c x ⟨n, h⟩ else codesFree c x
/-- Expert `e`'s codes have arrived. -/
def codesHere (e : Fin 5) : sProp (MM F) :=
  iprop(semVal ((c : Thread nD τ), SemLoc.dma codesSem) 0 ∗ heldAt c codesV ((codesOf e).view.read (Elt F) x.codes) ∗ codesP c x Finset.univ)

theorem codes_split (e : Fin 5) : (codesP c x Finset.univ : sProp (MM F)) ⊣⊢ iprop(codesP c x (codesOf e).view.set ∗ codesP c x (Finset.univ \ (codesOf e).view.set)) :=
  pointsTo_split_subset (Finset.subset_univ _)

theorem codesHere_free (e : Fin 5) : codesHere c x e ⊢ codesFree c x := by
  unfold codesHere codesFree
  iintro ⟨H1, ⟨%f, H2, -⟩, H3⟩
  isplitl [H1]
  · iexact H1
  isplitr [H3]
  · iexists f
    iexact H2
  · iexact H3

theorem codes_start (e : Fin 5) {M' : Memref sig .tc .hbm S460x6144 .fp8e4m3} {D' : Memref sig .tc .vmem S460x6144 .fp8e4m3} {sm' : DmaSem sig}
    (hM : M' = codesOf e) (hD : D' = codesV) (hsm : sm' = codesSem) (w1 w2 w3) (Q : PUnit → sProp (MM F)) :
    iprop(codesFree c x ∗ (codesFlyF c x e -∗ Q ⟨⟩)) ⊢ WP c (Prog.lift (.enqueueDma M' (.here D') (.dma sm') w1 w2 w3)) Q := by
  unfold codesFree codesFlyF
  iintro ⟨⟨Hc, Hd, Ht⟩, Hk⟩
  icases (codes_split c x e).1 $$ Ht with ⟨Ht, Ht'⟩
  iapply (copy_start c hM hD hsm fullShare x.codes w1 w2 w3 (by first | (show 0 < 88320; omega) | (show 0 < 92160; omega) | (show 0 < 706560; omega) | (show 0 < 737280; omega)) Q)
  isplitl [Hc]
  · iexact Hc
  isplitl [Hd]
  · iexact Hd
  isplitl [Ht]
  · iexact Ht
  iintro Hf
  iapply Hk
  isplitl [Hf]
  · iexact Hf
  · iexact Ht'

theorem codes_await (e : Fin 5) {M' : Memref sig .tc .hbm S460x6144 .fp8e4m3} {D' : Memref sig .tc .vmem S460x6144 .fp8e4m3} {sm' : DmaSem sig}
    (hM : M' = codesOf e) (hD : D' = codesV) (hsm : sm' = codesSem) (w1 w2) (Q : PUnit → sProp (MM F)) :
    iprop(codesFlyF c x e ∗ owing c ∗ ((codesHere c x e ∗ owing c) -∗ Q ⟨⟩)) ⊢ WP c (Prog.lift (.waitDma2 sm' M' D' w1 w2)) Q := by
  unfold codesHere codesFlyF
  iintro ⟨⟨Hf, Ht'⟩, HW, Hk⟩
  iapply (copy_wait c hM hD hsm fullShare x.codes w1 w2 Q)
  isplitl [Hf]
  · iexact Hf
  isplitl [HW]
  · iexact HW
  iintro ⟨Hc, Hd, Ht, HW⟩
  iapply Hk
  isplitr [HW]
  rotate_left
  · iexact HW
  isplitl [Hc]
  · iexact Hc
  isplitl [Hd]
  · iexact Hd
  iapply (codes_split c x e).2
  isplitl [Ht]
  · iexact Ht
  · iexact Ht'

/-! ## The dequantised rows -/

/-- The first `n` dequantised rows are expert `e`'s. -/
def xtSt (e : Fin 5) (n : ℕ) : sProp (MM F) := iprop(∃ f : BufOf F c xtV, held c xtV f ∗ ⌜xtGood x e n f⌝)

/-- What the dequantising loop keeps. -/
abbrev dqInv (ee : Fin 5) (jj : Fin 12) (r : ℕ) : sProp (MM F) :=
  iprop(heldAt c codesV ((codesOf ee).view.read (Elt F) x.codes) ∗ xtSt c x ee (512 * jj.val + 128 * r))

set_option maxHeartbeats 1000000 in
/-- One trip of the loop that dequantises a block of 512 columns, 128 at a time. -/
theorem dequant_step (k : Fin k0_t2_loop.trips) (ee : Fin 5) (jj : Fin 12) (e i e2 i2 j2 e3 i3 j3 : BitVec 32) (hw2 : k0_chk2 e i (wd jj.val)) (h1)
    (r : Fin k0_t3_loop.trips) (u : Unit) :
    dqInv c x ee jj r.val ⊢ WP c ((k0_t3_body sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10 0#32 1#32 k e i (wd jj.val) e2 i2 j2 e3 i3 j3 hw2 h1 (scRow x ee) (x.sizes (ix1 ee))) r u) (fun _ => dqInv c x ee jj (r.val + 1)) := by
    unfold dqInv
    have hr : r.val < 4 := lt_of_lt_of_eq r.isLt (by decide)
    unfold k0_t3_body xtSt
    beta_reduce
    iintro ⟨⟨%f, Hc, %hf⟩, ⟨%g, Hx, %hg⟩⟩
    have hq : 512 * jj.val + 128 * r.val = 128 * (⟨4 * jj.val + r.val, by omega⟩ : Fin 48).val := by show _ = 128 * (4 * jj.val + r.val); omega
    rw [hq] at hg
    iapply (WP_bind c _ _ _)
    iapply (load_op c codesV _ codesV.view.set (View.set_slice_subset _ _) fullShare f _ _)
    isplitl [Hc]
    · iexact Hc
    iintro Hc
    iapply (WP_bind c _ _ _)
    iapply (load_op c xtV _ xtV.view.set (View.set_slice_subset _ _) fullShare g _ _)
    isplitl [Hx]
    · iexact Hx
    iintro Hx
    iapply (WP_bind c _ _ _)
    iapply (store_op c xtV _ xtV.view.set (View.set_slice_subset _ _) g _ _ _ _)
    isplitl [Hx]
    · iexact Hx
    iintro Hx
    iapply (WP_pure c _ _)
    isplitl [Hc]
    · iexists f
      isplitl [Hc]
      · iexact Hc
      · ipureintro; exact hf
    · iexists _
      isplitl [Hx]
      · iexact Hx
      · ipureintro
        rw [codes_chunk x (⟨4 * jj.val + r.val, by omega⟩ : Fin 48) hf (by rw [off7_eq, hq])]
        have := xtGood_store x (⟨4 * jj.val + r.val, by omega⟩ : Fin 48) hg ((off8_eq jj r).trans (by rw [hq])) (k0_off8_inb e i (wd jj.val) hw2 r h1)
        have he : 128 * ((⟨4 * jj.val + r.val, by omega⟩ : Fin 48).val + 1) = 512 * jj.val + 128 * (r.val + 1) := by show 128 * (4 * jj.val + r.val + 1) = _; omega
        rw [he] at this
        exact this

set_option maxHeartbeats 1000000 in
/-- The loop that dequantises a block of 512 columns. -/
theorem dequant_run (k : Fin k0_t2_loop.trips) (ee : Fin 5) (jj : Fin 12) (e i e2 i2 j2 e3 i3 j3 : BitVec 32) (hw2 : k0_chk2 e i (wd jj.val)) (h1)
    (Q : Unit → sProp (MM F)) :
    iprop(dqInv c x ee jj 0 ∗ (dqInv c x ee jj 4 -∗ Q ⟨⟩))
      ⊢ WP c (Scf.Loop.for k0_t3_loop k0_t3_ok ⟨⟩ (k0_t3_body sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10 0#32 1#32 k e i (wd jj.val) e2 i2 j2 e3 i3 j3 hw2 h1 (scRow x ee) (x.sizes (ix1 ee)))) Q := by
  have ht : Scf.trips k0_t3_loop.lb k0_t3_loop.ub k0_t3_loop.st = 4 := by decide
  iintro ⟨Hc, Hk⟩
  iapply (Scf.wp_for frame (wpE (defs₀ (F := F)) Variants.none (c : Thread nD τ) none) Set.univ _ _ _ k0_t3_ok ⟨⟩ _
    (fun r _ => dqInv c x ee jj r) (dequant_step c x k ee jj e i e2 i2 j2 e3 i3 j3 hw2 h1))
  isplitl [Hc]
  · iexact Hc
  · iintro %acc H
    rw [ht]
    iapply Hk
    iexact H

end Cert.KernelIdeal.Hand

end
-- ==== Proof.KernelIdeal.Trip.lean ====
/- The conditional steps of a trip: what each takes and leaves. -/
module

public import proofs.«01_k».proof.Proof.KernelIdeal.Codes

@[expose] public section

set_option maxRecDepth 16384

noncomputable section

namespace Cert.KernelIdeal.Hand

open Cert.KernelIdeal Cert.KernelIdeal.Gen Cert.Tile
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable (c : Dev nD) (x : Inp F)

theorem WP_assume (P : Prop) (d : Decidable P) (h : P) (Q : PLift P → sProp (MM F)) : Q ⟨h⟩ ⊢ WP c (Prog.lift (TpuEff.assume P d)) Q := by
  iintro H
  iapply (wp_assume Variants.none (c : Thread nD τ) none Set.univ (P := P) (d := d) h)
  iapply (le_wp_ret frame _ _ _ Q)
  iexact H

/-- A conditional step. -/
theorem WP_dite {Pre Post : sProp (MM F)} (P : Prop) [Decidable P] (A : P → Prog (TpuEff nD τ sig (Elt F) Λ₀ .tc) PUnit) (B : ¬ P → Prog (TpuEff nD τ sig (Elt F) Λ₀ .tc) PUnit)
    (hA : ∀ (h : P) (R : PUnit → sProp (MM F)), iprop(Pre ∗ (Post -∗ R ⟨⟩)) ⊢ WP c (A h) R)
    (hB : ∀ (h : ¬ P) (R : PUnit → sProp (MM F)), iprop(Pre ∗ (Post -∗ R ⟨⟩)) ⊢ WP c (B h) R) (R : PUnit → sProp (MM F)) :
    iprop(Pre ∗ (Post -∗ R ⟨⟩)) ⊢ WP c (dite P A B) R := by
  by_cases h : P
  · rw [dif_pos h]; exact hA h R
  · rw [dif_neg h]; exact hB h R

/-! ## Before the products -/

/-- The codes before the trip of the tile `(e, i, j)`. -/
def codesPre (e i j : ℕ) : sProp (MM F) :=
  if i = 0 then (if j = 0 then codesFly c x e else codesHere c x (Fin.ofNat 5 e)) else codesFly c x (e + 1)
/-- The codes after the trip of the tile `(e, i, j)`. -/
def codesPost (e i j : ℕ) : sProp (MM F) :=
  if i = 0 then (if j = 11 then codesFly c x (e + 1) else codesHere c x (Fin.ofNat 5 e)) else codesFly c x (e + 1)
/-- How many dequantised rows there are before the trip of a tile. -/
def rowsPre (i j : ℕ) : ℕ := if i = 0 then 512 * j else 6144
/-- How many dequantised rows there are in the trip of a tile. -/
def rowsPost (i j : ℕ) : ℕ := if i = 0 then 512 * (j + 1) else 6144

theorem ofNat_val (e : Fin 5) : Fin.ofNat 5 e.val = e := Fin.ext (Nat.mod_eq_of_lt e.isLt)

theorem codesFly_val (e : Fin 5) : codesFly c x e.val = codesFlyF c x e := dif_pos e.isLt

/-- The scales, copied. -/
abbrev scalesP : sProp (MM F) := heldAt c scalesV (scalesH.view.read (Elt F) x.scales)

set_option maxHeartbeats 1000000 in
theorem pA_run (k : Fin k0_t2_loop.trips) (e : Fin 5) (i j : Fin 12) (e2 i2 j2 e3 i3 j3 : BitVec 32) (hw3) (hw2) (Q : PUnit → sProp (MM F)) :
    iprop(codesPre c x e.val i.val j.val ∗ scalesP c x ∗ sizesP c x ∗ xtSt c x e (rowsPre i.val j.val) ∗ owing c
      ∗ ((codesPost c x e.val i.val j.val ∗ scalesP c x ∗ sizesP c x ∗ xtSt c x e (rowsPost i.val j.val) ∗ owing c) -∗ Q ⟨⟩))
      ⊢ WP c (pA k (wd e.val) (wd i.val) (wd j.val) e2 i2 j2 e3 i3 j3 hw3 hw2) Q := by
  unfold pA
  by_cases hi : i.val = 0
  · rw [dif_pos ((cond1_iff i).2 hi)]
    unfold codesPre codesPost rowsPre rowsPost
    rw [if_pos hi, if_pos hi, if_pos hi, if_pos hi, ofNat_val]
    iintro ⟨Hcodes, ⟨%sf, Hs, %hsf⟩, Hz, Hx, HW, Hk⟩
    iapply (WP_bind c _ _ _)
    unfold pA2
    iapply (WP_dite c (Pre := iprop((if j.val = 0 then codesFly c x e.val else codesHere c x e) ∗ owing c)) (Post := iprop(codesHere c x e ∗ owing c)) _ _ _ ?_ ?_ _)
    · intro h2 R
      rw [if_pos ((cond2_iff j).1 h2), codesFly_val]
      iintro ⟨⟨Hf, HW⟩, Hk⟩
      iapply (WP_bind c _ _ _)
      iapply (codes_await c x e (codesOf_eq (off4_eq e) _) rfl codesSem_eq _ _ _)
      isplitl [Hf]
      · iexact Hf
      isplitl [HW]
      · iexact HW
      iintro H
      iapply (WP_pure c _ _)
      iapply Hk
      iexact H
    · intro h2 R
      rw [if_neg (fun h => h2 ((cond2_iff j).2 h))]
      iintro ⟨H, Hk⟩
      iapply (WP_pure c _ _)
      iapply Hk
      iexact H
    isplitl [Hcodes HW]
    · isplitl [Hcodes]
      · iexact Hcodes
      · iexact HW
    iintro ⟨Hcodes, HW⟩
    iapply (WP_bind c _ _ _)
    iapply (load_op c scalesV _ scalesV.view.set (View.set_slice_subset _ _) fullShare sf _ _)
    isplitl [Hs]
    · iexact Hs
    iintro Hs
    rw [scales_row x hsf (off5_eq e)]
    iapply (WP_bind c _ _ _)
    iapply (sizes_word c x (off6_eq e) _ _ _ _)
    isplitl [Hz]
    · iexact Hz
    iintro Hz
    iapply (WP_bind c _ _ _)
    iapply (dequant_run c x k e j (wd e.val) (wd i.val) e2 i2 j2 e3 i3 j3 hw2 _ _)
    unfold codesHere
    icases Hcodes with ⟨Hsem, Hv, Hh⟩
    isplitl [Hv Hx]
    · isplitl [Hv]
      · iexact Hv
      · iexact Hx
    iintro ⟨Hv, Hx⟩
    iapply (WP_bind c _ _ _)
    unfold pA3
    iapply (WP_dite c (Pre := codesHere c x e) (Post := (if j.val = 11 then codesFly c x (e.val + 1) else codesHere c x e)) _ _ _ ?_ ?_ _)
    · intro h3 R
      obtain ⟨hj, he⟩ := (cond3_iff e j).1 h3
      rw [if_pos hj, show codesFly c x (e.val + 1) = codesFlyF c x ⟨e.val + 1, he⟩ from dif_pos he]
      iintro ⟨Hf, Hk⟩
      iapply (WP_bind c _ _ _)
      iapply (codes_start c x ⟨e.val + 1, he⟩ (codesOf_eq (off9_eq e) _) rfl codesSem_eq _ _ _ _)
      isplitl [Hf]
      · iapply (codesHere_free c x e)
        iexact Hf
      iintro H
      iapply (WP_pure c _ _)
      iapply Hk
      iexact H
    · intro h3 R
      have h3' : ¬ (j.val = 11 ∧ e.val + 1 < 5) := fun h => h3 ((cond3_iff e j).2 h)
      iintro ⟨H, Hk⟩
      iapply (WP_pure c _ _)
      iapply Hk
      by_cases hj : j.val = 11
      · rw [if_pos hj, show codesFly c x (e.val + 1) = codesFree c x from dif_neg (fun h => h3' ⟨hj, h⟩)]
        iapply (codesHere_free c x e)
        iexact H
      · rw [if_neg hj]
        iexact H
    isplitl [Hsem Hv Hh]
    · unfold codesHere
      isplitl [Hsem]
      · iexact Hsem
      isplitl [Hv]
      · iexact Hv
      · iexact Hh
    iintro Hcodes
    iapply (WP_pure c _ _)
    iapply Hk
    unfold codesHere
    isplitl [Hcodes]
    · iexact Hcodes
    isplitl [Hs]
    · iexists sf
      isplitl [Hs]
      · iexact Hs
      · ipureintro; exact hsf
    isplitl [Hz]
    · iexact Hz
    isplitl [Hx]
    · rw [show 512 * (j.val + 1) = 512 * j.val + 128 * 4 by omega]
      iexact Hx
    · iexact HW
  · rw [dif_neg (fun h => hi ((cond1_iff i).1 h))]
    unfold codesPre codesPost rowsPre rowsPost
    rw [if_neg hi, if_neg hi, if_neg hi, if_neg hi]
    iintro ⟨H1, H2, H3, H4, H5, Hk⟩
    iapply (WP_pure c _ _)
    iapply Hk
    isplitl [H1]
    · iexact H1
    isplitl [H2]
    · iexact H2
    isplitl [H3]
    · iexact H3
    isplitl [H4]
    · iexact H4
    · iexact H5

/-! ## The tiles written -/

/-- The result's elements that step `s` writes, before it does. -/
def outRaw (s : ℕ) : sProp (MM F) :=
  iprop(heldAny c (oBlk (tE s) (tI s) (tJ s)) ∗ (if (tI s).val = (tJ s).val then iprop(emp) else heldAny c (oBlk (tE s) (tJ s) (tI s))))
/-- The result's elements that step `s` writes, after it did. -/
def outDone (s : ℕ) : sProp (MM F) :=
  iprop(heldAt c (oBlk (tE s) (tI s) (tJ s)) (tileS x s) ∗ (if (tI s).val = (tJ s).val then iprop(emp) else heldAt c (oBlk (tE s) (tJ s) (tI s)) (tileTS x s)))

set_option maxHeartbeats 1000000 in
theorem pB_run (k : Fin k0_t2_loop.trips) (s : ℕ) (hs : s = k.val) (hs' : s < 390) (e3 i3 j3 : BitVec 32) (he : e3 = wd (tE (s - 8)).val) (hi : i3 = wd (tI (s - 8)).val) (hj : j3 = wd (tJ (s - 8)).val)
    (hw4) (Q : PUnit → sProp (MM F)) :
    iprop((aRing c x (s - 8) s ∗ bRing c x (s - 8) s ∗ owing c) ∗ (((if 8 ≤ s then outDone c x (s - 8) else iprop(emp)) ∗ aRing c x (s + 1 - 8) s ∗ bRing c x (s + 1 - 8) s ∗ owing c) -∗ Q ⟨⟩))
      ⊢ WP c (pB k e3 i3 j3 hw4) Q := by
  subst he hi hj
  unfold pB
  refine WP_dite c _ _ _ ?_ ?_ Q
  · intro h4 R
    have h8 : 8 ≤ s := hs ▸ (cond4_iff k).1 h4
    have hlo : s + 1 - 8 = s - 8 + 1 := by omega
    have hk : k.val % 8 = (Ring.sl 8 (s - 8)).val := by rw [Ring.sl_val, ← hs]; omega
    rw [if_pos h8, hlo]
    iintro ⟨⟨Ha, Hb, HW⟩, Hk⟩
    iapply (WP_bind c _ _ _)
    iapply (a_await c x (by omega : s - 8 < s) (by omega) (aSlot_eq (by rw [k0_off12_eq, hk]) _) (oBlk_eq (off11_eq _ _ _) _) (aSem_eq (by rw [k0_off10_eq, hk]) _) _ _ _)
    isplitl [Ha]
    · iexact Ha
    isplitl [HW]
    · iexact HW
    iintro ⟨Ho, Ha, HW⟩
    iapply (WP_bind c _ _ _)
    unfold outDone
    unfold pB5
    iapply (WP_dite c (Pre := iprop(bRing c x (s - 8) s ∗ owing c))
      (Post := iprop((if (tI (s - 8)).val = (tJ (s - 8)).val then iprop(emp) else heldAt c (oBlk (tE (s - 8)) (tJ (s - 8)) (tI (s - 8))) (tileTS x (s - 8))) ∗ bRing c x (s - 8 + 1) s ∗ owing c)) _ _ _ ?_ ?_ _)
    · intro h5 R
      have hne := (cond5_iff _ _).1 h5
      rw [if_neg hne]
      iintro ⟨⟨Hb, HW⟩, Hk⟩
      iapply (WP_bind c _ _ _)
      iapply (b_await c x (by omega : s - 8 < s) (by omega) hne (bSlot_eq (by rw [k0_off15_eq, hk]) _) (oBlk_eq (off14_eq _ _ _) _) (bSem_eq (by rw [k0_off13_eq, hk]) _) _ _ _)
      isplitl [Hb]
      · iexact Hb
      isplitl [HW]
      · iexact HW
      iintro H
      iapply (WP_pure c _ _)
      iapply Hk
      iexact H
    · intro h5 R
      have he : (tI (s - 8)).val = (tJ (s - 8)).val := by
        by_contra h
        exact h5 ((cond5_iff _ _).2 h)
      rw [if_pos he]
      iintro ⟨⟨Hb, HW⟩, Hk⟩
      iapply (WP_pure c _ _)
      iapply Hk
      isplitr [Hb HW]
      · iempintro
      isplitl [Hb]
      · iapply (b_skip c x (by omega : s - 8 < s) (by omega) he)
        iexact Hb
      · iexact HW
    isplitl [Hb HW]
    · isplitl [Hb]
      · iexact Hb
      · iexact HW
    iintro ⟨Ho', Hb, HW⟩
    iapply (WP_pure c _ _)
    iapply Hk
    isplitl [Ho Ho']
    · isplitl [Ho]
      · iexact Ho
      · iexact Ho'
    isplitl [Ha]
    · iexact Ha
    isplitl [Hb]
    · iexact Hb
    · iexact HW
  · intro h4 R
    have h8 : ¬ 8 ≤ s := fun h => h4 ((cond4_iff k).2 (hs ▸ h))
    rw [if_neg h8, show s + 1 - 8 = s - 8 by omega]
    iintro ⟨⟨Ha, Hb, HW⟩, Hk⟩
    iapply (WP_pure c _ _)
    iapply Hk
    isplitr [Ha Hb HW]
    · iempintro
    isplitl [Ha]
    · iexact Ha
    isplitl [Hb]
    · iexact Hb
    · iexact HW

set_option maxHeartbeats 1000000 in
theorem pD_run (k : Fin k0_t2_loop.trips) (s : ℕ) (hs : s = k.val) (e2 i2 j2 : BitVec 32) (he : s + 12 < 390 → e2 = wd (tE (s + 12)).val ∧ i2 = wd (tI (s + 12)).val ∧ j2 = wd (tJ (s + 12)).val)
    (hw6) (Q : PUnit → sProp (MM F)) :
    iprop(hRing c x (s + 1) (min (s + 12) 390) ∗ (hRing c x (s + 1) (min (s + 1 + 12) 390) -∗ Q ⟨⟩)) ⊢ WP c (pD k e2 i2 j2 hw6) Q := by
  unfold pD
  refine WP_dite c _ _ _ ?_ ?_ Q
  · intro h6 R
    have h12 : s + 12 < 390 := hs ▸ (cond6_iff k).1 h6
    obtain ⟨rfl, rfl, rfl⟩ := he h12
    have hk : k.val % 12 = (Ring.sl 12 (s + 12)).val := by rw [Ring.sl_val, ← hs]; omega
    rw [show min (s + 12) 390 = s + 12 by omega, show min (s + 1 + 12) 390 = s + 12 + 1 by omega]
    iintro ⟨Hh, Hk⟩
    iapply (WP_bind c _ _ _)
    iapply (h_issue c x (by omega : s + 1 ≤ s + 12) (by omega) (hBlk_eq (off30_eq _ _ _) _) (hSlot_eq (by rw [k0_off29_eq, hk]) _) (hSem_eq (by rw [k0_off28_eq, hk]) _) _ _ _ _)
    isplitl [Hh]
    · iexact Hh
    iintro H
    iapply (WP_pure c _ _)
    iapply Hk
    iexact H
  · intro h6 R
    have h12 : ¬ s + 12 < 390 := fun h => h6 ((cond6_iff k).2 (hs ▸ h))
    rw [show min (s + 12) 390 = 390 by omega, show min (s + 1 + 12) 390 = 390 by omega]
    iintro ⟨Hh, Hk⟩
    iapply (WP_pure c _ _)
    iapply Hk
    iexact Hh

set_option maxHeartbeats 1000000 in
theorem pE_run (k : Fin k0_t2_loop.trips) (s : ℕ) (hs : s = k.val) (hw2) (Q : PUnit → sProp (MM F)) :
    iprop(((semVal ((c : Thread nD τ), SemLoc.dma (bSem (Ring.sl 8 s))) 0 ∗ heldAt c (bSlot (Ring.sl 8 s)) (tileTS x s))
        ∗ (if (tI s).val = (tJ s).val then iprop(emp) else heldAny c (oBlk (tE s) (tJ s) (tI s)))) ∗ (bSt c x (Ring.sl 8 s) (some s) -∗ Q ⟨⟩))
      ⊢ WP c (pE k (wd (tE s).val) (wd (tI s).val) (wd (tJ s).val) hw2) Q := by
  unfold pE
  have hk : k.val % 8 = (Ring.sl 8 s).val := by rw [Ring.sl_val, ← hs]
  refine WP_dite c _ _ _ ?_ ?_ Q
  · intro h7 R
    have hne := (cond7_iff _ _).1 h7
    rw [if_neg hne, bSt_off c x _ s hne]
    iintro ⟨⟨⟨Hc, ⟨%f, Hf, %hf⟩⟩, Ho⟩, Hk⟩
    iapply (WP_bind c _ _ _)
    iapply (copy_start c (bSlot_eq (by rw [k0_off36_eq, hk]) _) (oBlk_eq (off35_eq _ _ _) _) (bSem_eq (by rw [k0_off34_eq, hk]) _) fullShare f _ _ _ (by show 0 < 32768; omega) _)
    isplitl [Hc]
    · iexact Hc
    isplitl [Ho]
    · iexact Ho
    isplitl [Hf]
    · iexact Hf
    iintro H
    iapply (WP_pure c _ _)
    iapply Hk
    iexists f
    isplitr [H]
    · ipureintro; exact hf
    · iexact H
  · intro h7 R
    have he : (tI s).val = (tJ s).val := by
      by_contra h
      exact h7 ((cond7_iff _ _).2 h)
    rw [if_pos he, bSt_diag c x _ s he]
    iintro ⟨⟨⟨Hc, ⟨%f, Hf, %hf⟩⟩, -⟩, Hk⟩
    iapply (WP_pure c _ _)
    iapply Hk
    isplitl [Hc]
    · iexact Hc
    · iexists f
      iexact Hf

end Cert.KernelIdeal.Hand

end
-- ==== Proof.KernelIdeal.TripParts.lean ====
/- The parts of a trip of the main loop. -/
module

public import proofs.«01_k».proof.Proof.KernelIdeal.Trip

@[expose] public section

set_option maxRecDepth 16384

noncomputable section

namespace Cert.KernelIdeal.Hand

open Cert.KernelIdeal Cert.KernelIdeal.Gen Cert.Tile
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable (c : Dev nD) (x : Inp F)

/-- Up to the products: the tiles written eight trips before are in place, the trip's rows are dequantised, the Hessian's tile is
    in its slot. -/
def pre1 (s : ℕ) : sProp (MM F) :=
  iprop(codesPre c x (tE s).val (tI s).val (tJ s).val ∗ scalesP c x ∗ sizesP c x ∗ xtSt c x (tE s) (rowsPre (tI s).val (tJ s).val) ∗ owing c
    ∗ aRing c x (s - 8) s ∗ bRing c x (s - 8) s ∗ hRing c x s (min (s + 12) 390) ∗ countsP c x)
def post1 (s : ℕ) : sProp (MM F) :=
  iprop(codesPost c x (tE s).val (tI s).val (tJ s).val ∗ scalesP c x ∗ sizesP c x ∗ xtSt c x (tE s) (rowsPost (tI s).val (tJ s).val) ∗ owing c
    ∗ (if 8 ≤ s then outDone c x (s - 8) else iprop(emp)) ∗ aRing c x (s + 1 - 8) s ∗ bRing c x (s + 1 - 8) s
    ∗ heldAt c (hSlot (Ring.sl 12 s)) ((hBlk (tE s) (tI s) (tJ s)).view.read (Elt F) x.hess)
    ∗ (heldAny c (hSlot (Ring.sl 12 s)) -∗ hRing c x (s + 1) (min (s + 12) 390)) ∗ countsP c x)

set_option maxHeartbeats 2000000 in
theorem part1_run (k : Fin k0_t2_loop.trips) (s : ℕ) (hs : s = k.val) (hs' : s < 390) (e2 i2 j2 : BitVec 32) (h6 : k0_chk6 k e2 i2 j2)
    (Q : _ → sProp (MM F)) :
    iprop(pre1 c x s ∗ (post1 c x s -∗ Q ⟨h6, chk3_ok (tE s) (tI s), chk2_ok (tE s) (tI s) (tJ s), Scf.iv 0#32 1#32 k, Scalar.remsi (Scf.iv 0#32 1#32 k) 12#32,
        Scalar.remsi (Scf.iv 0#32 1#32 k) 8#32, keepOf x (tE s), gainOf x (tE s), Scalar.muli (wd (tI s).val) 512#32, Scalar.addi (Scalar.muli (wd (tJ s).val) 512#32) 0#32⟩))
      ⊢ WP c (k0_part1 (F := F) sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10 0#32 1#32 k (wd (tE s).val) (wd (tI s).val) (wd (tJ s).val) e2 i2 j2 (wd (tE (s - 8)).val) (wd (tI (s - 8)).val) (wd (tJ (s - 8)).val)) Q := by
  have hk : k.val % 12 = (Ring.sl 12 s).val := by rw [Ring.sl_val, ← hs]
  rw [part1_eq]
  unfold pre1
  iintro ⟨⟨Hc, Hs, Hz, Hx, HW, Ha, Hb, Hh, Hn⟩, Hk⟩
  iapply (WP_bind c _ _ _)
  iapply (WP_assume c _ _ h6 _)
  iapply (WP_bind c _ _ _)
  iapply (WP_assume c _ _ (chk5_ok (tE s)) _)
  iapply (WP_bind c _ _ _)
  iapply (WP_assume c _ _ (chk4_ok k (tE (s - 8)) (tI (s - 8)) (tJ (s - 8))) _)
  iapply (WP_bind c _ _ _)
  iapply (WP_assume c _ _ (chk3_ok (tE s) (tI s)) _)
  iapply (WP_bind c _ _ _)
  iapply (WP_assume c _ _ (chk2_ok (tE s) (tI s) (tJ s)) _)
  iapply (WP_bind c _ _ _)
  iapply (pA_run c x k (tE s) (tI s) (tJ s) _ _ _ _ _ _ _ _ _)
  isplitl [Hc]
  · iexact Hc
  isplitl [Hs]
  · iexact Hs
  isplitl [Hz]
  · iexact Hz
  isplitl [Hx]
  · iexact Hx
  isplitl [HW]
  · iexact HW
  iintro ⟨Hc, Hs, Hz, Hx, HW⟩
  iapply (WP_bind c _ _ _)
  iapply (pB_run c x k s hs hs' _ _ _ rfl rfl rfl _ _)
  isplitl [Ha Hb HW]
  · isplitl [Ha]
    · iexact Ha
    isplitl [Hb]
    · iexact Hb
    · iexact HW
  iintro ⟨Ho, Ha, Hb, HW⟩
  iapply (WP_bind c _ _ _)
  iapply (h_await c x (by omega : s < min (s + 12) 390) (by omega) (hBlk_eq (off18_eq _ _ _) _) (hSlot_eq (by rw [k0_off17_eq, hk]) _) (hSem_eq (by rw [k0_off16_eq, hk]) _) _ _ _)
  isplitl [Hh]
  · iexact Hh
  isplitl [HW]
  · iexact HW
  iintro ⟨Hh, Hhr, HW⟩
  iapply (WP_bind c _ _ _)
  iapply (counts_word c x (off19_eq (tE s)) _ _ _ _)
  isplitl [Hn]
  · iexact Hn
  iintro Hn
  iapply (WP_bind c _ _ _)
  iapply (sizes_word c x (off19_eq (tE s)) _ _ _ _)
  isplitl [Hz]
  · iexact Hz
  iintro Hz
  iapply (WP_pure c _ _)
  unfold keepOf gainOf
  iapply Hk
  unfold post1
  isplitl [Hc]
  · iexact Hc
  isplitl [Hs]
  · iexact Hs
  isplitl [Hz]
  · iexact Hz
  isplitl [Hx]
  · iexact Hx
  isplitl [HW]
  · iexact HW
  isplitl [Ho]
  · iexact Ho
  isplitl [Ha]
  · iexact Ha
  isplitl [Hb]
  · iexact Hb
  isplitl [Hh]
  · iexact Hh
  isplitl [Hhr]
  · iexact Hhr
  · iexact Hn

set_option maxHeartbeats 4000000 in
theorem part2_run (k : Fin k0_t2_loop.trips) (s : ℕ) (hs : s = k.val) (n : ℕ) (hI : 512 * (tI s).val + 512 ≤ n) (hJ : 512 * (tJ s).val + 512 ≤ n) (v28 v29 v59 v62 : BitVec 32)
    (fx : BufOf F c xtV) (hfx : xtGood x (tE s) n fx) (fh : BufOf F c (hSlot (Ring.sl 12 s))) (hfh : (hSlot (Ring.sl 12 s)).view.read (Elt F) fh = (hBlk (tE s) (tI s) (tJ s)).view.read (Elt F) x.hess)
    (fa : BufOf F c (aSlot (Ring.sl 8 s))) (fb : BufOf F c (bSlot (Ring.sl 8 s)))
    (Q : _ → sProp (MM F)) :
    iprop(held c xtV fx ∗ held c (hSlot (Ring.sl 12 s)) fh ∗ held c (aSlot (Ring.sl 8 s)) fa ∗ held c (bSlot (Ring.sl 8 s)) fb
      ∗ ((held c xtV fx ∗ held c (hSlot (Ring.sl 12 s)) fh
        ∗ held c (aSlot (Ring.sl 8 s)) (aV.view.writes (Elt F) fa [⟨Rect.unit (s := S8x512x512) (k0_off23 k) S1x512x256.size (k0_off23_inb k), k0_pay7 (keepOf x (tE s)) (gainOf x (tE s)) (lhsOf x (tE s) (tI s)) (rhsOf x (tE s) (tJ s) 0) (hHalf x (tE s) (tI s) (tJ s) 0)⟩])
        ∗ held c (bSlot (Ring.sl 8 s)) (bV.view.writes (Elt F) fb [⟨Rect.unit (s := S8x512x512) (k0_off24 k) S1x256x512.size (k0_off24_inb k), k0_pay8 (keepOf x (tE s)) (gainOf x (tE s)) (lhsOf x (tE s) (tI s)) (rhsOf x (tE s) (tJ s) 0) (hHalf x (tE s) (tI s) (tJ s) 0)⟩]))
        -∗ Q ⟨k0_pay9 (keepOf x (tE s)) (gainOf x (tE s)) (lhsOf x (tE s) (tI s)) (rhsOf x (tE s) (tJ s) 1) (hHalf x (tE s) (tI s) (tJ s) 1),
            k0_pay10 (keepOf x (tE s)) (gainOf x (tE s)) (lhsOf x (tE s) (tI s)) (rhsOf x (tE s) (tJ s) 1) (hHalf x (tE s) (tI s) (tJ s) 1)⟩))
      ⊢ WP c (k0_part2 (F := F) sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10 k (wd (tE s).val) (wd (tI s).val) (wd (tJ s).val) (chk3_ok (tE s) (tI s)) (chk2_ok (tE s) (tI s) (tJ s)) v28 v29 (keepOf x (tE s)) (gainOf x (tE s)) v59 v62) Q := by
  have hk : k.val % 12 = (Ring.sl 12 s).val := by rw [Ring.sl_val, ← hs]
  have hk8 : k.val % 8 = (Ring.sl 8 s).val := by rw [Ring.sl_val, ← hs]
  have o22 : k0_off22 k = ![(Ring.sl 12 s).val, 0, 256 * (0 : Fin 2).val] := by rw [k0_off22_eq, hk]; rfl
  have o25 : k0_off25 k = ![(Ring.sl 12 s).val, 0, 256 * (1 : Fin 2).val] := by rw [k0_off25_eq, hk]; rfl
  have o23 : k0_off23 k = ![(Ring.sl 8 s).val, 0, 0] := by rw [k0_off23_eq, hk8]
  have o24 : k0_off24 k = ![(Ring.sl 8 s).val, 0, 0] := by rw [k0_off24_eq, hk8]
  have o26 : k0_off26 k = ![(Ring.sl 8 s).val, 0, 256] := by rw [k0_off26_eq, hk8]
  rw [k0_part2_eq_skeleton]
  unfold k0_part2_skel
  iintro ⟨Hx, Hh, Ha, Hb, Hk⟩
  iapply (WP_bind c _ _ _)
  iapply (load_op c xtV _ xtV.view.set (View.set_slice_subset _ _) fullShare fx _ _)
  isplitl [Hx]
  · iexact Hx
  iintro Hx
  rw [xt_lhs x hfx hI (off20_eq (tI s))]
  iapply (WP_bind c _ _ _)
  iapply (load_op c xtV _ xtV.view.set (View.set_slice_subset _ _) fullShare fx _ _)
  isplitl [Hx]
  · iexact Hx
  iintro Hx
  rw [xt_rhs x 0 hfx hJ (off21_eq0 (tJ s))]
  iapply (WP_bind c _ _ _)
  iapply (load_op c hV _ (hSlot (Ring.sl 12 s)).view.set (hSlot_sub (by decide) o22 _) fullShare fh _ _)
  isplitl [Hh]
  · iexact Hh
  iintro Hh
  rw [hSlot_half x hfh 0 o22]
  iapply (WP_bind c _ _ _)
  iapply (load_op c aV _ (aSlot (Ring.sl 8 s)).view.set (aSlot_sub o23 rfl _) fullShare fa _ _)
  isplitl [Ha]
  · iexact Ha
  iintro Ha
  iapply (WP_bind c _ _ _)
  iapply (store_op c aV _ (aSlot (Ring.sl 8 s)).view.set (aSlot_sub o23 rfl _) fa _ _ _ _)
  isplitl [Ha]
  · iexact Ha
  iintro Ha
  iapply (WP_bind c _ _ _)
  iapply (load_op c bV _ (bSlot (Ring.sl 8 s)).view.set (bSlot_sub o24 rfl _) fullShare fb _ _)
  isplitl [Hb]
  · iexact Hb
  iintro Hb
  iapply (WP_bind c _ _ _)
  iapply (store_op c bV _ (bSlot (Ring.sl 8 s)).view.set (bSlot_sub o24 rfl _) fb _ _ _ _)
  isplitl [Hb]
  · iexact Hb
  iintro Hb
  iapply (WP_bind c _ _ _)
  iapply (load_op c xtV _ xtV.view.set (View.set_slice_subset _ _) fullShare fx _ _)
  isplitl [Hx]
  · iexact Hx
  iintro Hx
  rw [xt_lhs x hfx hI (off20_eq (tI s))]
  iapply (WP_bind c _ _ _)
  iapply (load_op c xtV _ xtV.view.set (View.set_slice_subset _ _) fullShare fx _ _)
  isplitl [Hx]
  · iexact Hx
  iintro Hx
  rw [xt_rhs x 1 hfx hJ (off21_eq1 (tJ s))]
  iapply (WP_bind c _ _ _)
  iapply (load_op c hV _ (hSlot (Ring.sl 12 s)).view.set (hSlot_sub (by decide) o25 _) fullShare fh _ _)
  isplitl [Hh]
  · iexact Hh
  iintro Hh
  rw [hSlot_half x hfh 1 o25]
  iapply (WP_bind c _ _ _)
  iapply (load_op c aV _ (aSlot (Ring.sl 8 s)).view.set (aSlot_sub o26 rfl _) fullShare _ _ _)
  isplitl [Ha]
  · iexact Ha
  iintro Ha
  iapply (WP_pure c _ _)
  iapply Hk
  isplitl [Hx]
  · iexact Hx
  isplitl [Hh]
  · iexact Hh
  isplitl [Ha]
  · iexact Ha
  · iexact Hb

set_option maxHeartbeats 4000000 in
theorem part3_run (k : Fin k0_t2_loop.trips) (s : ℕ) (hs : s = k.val) (e2 i2 j2 e3 i3 j3 : BitVec 32) (h6 : k0_chk6 k e2 i2 j2)
    (he : s + 12 < 390 → e2 = wd (tE (s + 12)).val ∧ i2 = wd (tI (s + 12)).val ∧ j2 = wd (tJ (s + 12)).val) (arg18 v29 : BitVec 32)
    (fa : BufOf F c (aSlot (Ring.sl 8 s))) (fb : BufOf F c (bSlot (Ring.sl 8 s))) (Q : _ → sProp (MM F)) :
    iprop(held c (aSlot (Ring.sl 8 s)) (aV.view.writes (Elt F) fa [⟨Rect.unit (s := S8x512x512) (k0_off23 k) S1x512x256.size (k0_off23_inb k), k0_pay7 (keepOf x (tE s)) (gainOf x (tE s)) (lhsOf x (tE s) (tI s)) (rhsOf x (tE s) (tJ s) 0) (hHalf x (tE s) (tI s) (tJ s) 0)⟩])
      ∗ held c (bSlot (Ring.sl 8 s)) (bV.view.writes (Elt F) fb [⟨Rect.unit (s := S8x512x512) (k0_off24 k) S1x256x512.size (k0_off24_inb k), k0_pay8 (keepOf x (tE s)) (gainOf x (tE s)) (lhsOf x (tE s) (tI s)) (rhsOf x (tE s) (tJ s) 0) (hHalf x (tE s) (tI s) (tJ s) 0)⟩])
      ∗ hRing c x (s + 1) (min (s + 12) 390)
      ∗ semVal ((c : Thread nD τ), SemLoc.dma (aSem (Ring.sl 8 s))) 0
      ∗ ((∃ f : BufOf F c (aSlot (Ring.sl 8 s)), ⌜(aSlot (Ring.sl 8 s)).view.read (Elt F) f = tileS x s⌝
        ∗ fly c (aSlot (Ring.sl 8 s)) (oBlk (tE s) (tI s) (tJ s)) (aSem (Ring.sl 8 s)) fullShare f) -∗ aRing c x (s + 1 - 8) (s + 1))
      ∗ semVal ((c : Thread nD τ), SemLoc.dma (bSem (Ring.sl 8 s))) 0
      ∗ (bSt c x (Ring.sl 8 s) (some s) -∗ bRing c x (s + 1 - 8) (s + 1))
      ∗ outRaw c s
      ∗ ((hRing c x (s + 1) (min (s + 1 + 12) 390) ∗ aRing c x (s + 1 - 8) (s + 1) ∗ bRing c x (s + 1 - 8) (s + 1))
        -∗ Q ⟨Scalar.select (Scalar.cmpi .sge arg18 8#32) (nxW e3 i3 j3).1 e3, Scalar.select (Scalar.cmpi .sge arg18 8#32) (nxW e3 i3 j3).2.1 i3,
            Scalar.select (Scalar.cmpi .sge arg18 8#32) (nxW e3 i3 j3).2.2 j3, Scalar.addi (wd (tJ s).val) 1#32, Scalar.cmpi .eq (Scalar.addi (wd (tJ s).val) 1#32) 12#32, 1#32⟩))
      ⊢ WP c (k0_part3 (F := F) sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10 k (wd (tE s).val) (wd (tI s).val) (wd (tJ s).val) e2 i2 j2 e3 i3 j3 h6 (chk2_ok (tE s) (tI s) (tJ s)) arg18 v29
          (k0_pay9 (keepOf x (tE s)) (gainOf x (tE s)) (lhsOf x (tE s) (tI s)) (rhsOf x (tE s) (tJ s) 1) (hHalf x (tE s) (tI s) (tJ s) 1))
          (k0_pay10 (keepOf x (tE s)) (gainOf x (tE s)) (lhsOf x (tE s) (tI s)) (rhsOf x (tE s) (tJ s) 1) (hHalf x (tE s) (tI s) (tJ s) 1))) Q := by
  have hk8 : k.val % 8 = (Ring.sl 8 s).val := by rw [Ring.sl_val, ← hs]
  have o23 : k0_off23 k = ![(Ring.sl 8 s).val, 0, 0] := by rw [k0_off23_eq, hk8]
  have o24 : k0_off24 k = ![(Ring.sl 8 s).val, 0, 0] := by rw [k0_off24_eq, hk8]
  have o26 : k0_off26 k = ![(Ring.sl 8 s).val, 0, 256] := by rw [k0_off26_eq, hk8]
  have o27 : k0_off27 k = ![(Ring.sl 8 s).val, 256, 0] := by rw [k0_off27_eq, hk8]
  have ta := aSlot_tile x (tE s) (tI s) (tJ s) fa o23 o26 (k0_off23_inb k) (k0_off26_inb k)
  have tb := bSlot_tile x (tE s) (tI s) (tJ s) fb o24 o27 (k0_off24_inb k) (k0_off27_inb k)
  rw [part3_eq]
  unfold outRaw
  iintro ⟨Ha, Hb, Hh, Hsa, Hra, Hsb, Hrb, ⟨Hoa, Hob⟩, Hk⟩
  iapply (WP_bind c _ _ _)
  iapply (store_op c aV _ (aSlot (Ring.sl 8 s)).view.set (aSlot_sub o26 rfl _) _ _ _ _ _)
  isplitl [Ha]
  · iexact Ha
  iintro Ha
  iapply (WP_bind c _ _ _)
  iapply (load_op c bV _ (bSlot (Ring.sl 8 s)).view.set (bSlot_sub o27 rfl _) fullShare _ _ _)
  isplitl [Hb]
  · iexact Hb
  iintro Hb
  iapply (WP_bind c _ _ _)
  iapply (store_op c bV _ (bSlot (Ring.sl 8 s)).view.set (bSlot_sub o27 rfl _) _ _ _ _ _)
  isplitl [Hb]
  · iexact Hb
  iintro Hb
  iapply (WP_bind c _ _ _)
  iapply (pD_run c x k s hs _ _ _ he _ _)
  isplitl [Hh]
  · iexact Hh
  iintro Hh
  iapply (WP_bind c _ _ _)
  iapply (copy_start c (aSlot_eq (by rw [k0_off33_eq, hk8]) _) (oBlk_eq (off32_eq _ _ _) _) (aSem_eq (by rw [k0_off31_eq, hk8]) _) fullShare _ _ _ _ (by show 0 < 32768; omega) _)
  isplitl [Hsa]
  · iexact Hsa
  isplitl [Hoa]
  · iexact Hoa
  isplitl [Ha]
  · iexact Ha
  iintro Hfl
  iapply (WP_bind c _ _ _)
  iapply (pE_run c x k s hs _ _)
  isplitl [Hsb Hb Hob]
  · isplitl [Hsb Hb]
    · isplitl [Hsb]
      · iexact Hsb
      · iexists _
        isplitl [Hb]
        · iexact Hb
        · ipureintro; exact tb
    · iexact Hob
  iintro Hb
  iapply (WP_pure c _ _)
  unfold nxW
  dsimp only
  iapply Hk
  isplitl [Hh]
  · iexact Hh
  isplitl [Hra Hfl]
  · iapply Hra
    iexists _
    isplitr [Hfl]
    · ipureintro; exact ta
    · iexact Hfl
  · iapply Hrb
    iexact Hb

end Cert.KernelIdeal.Hand

end
-- ==== Proof.KernelIdeal.Loops.lean ====
/- The kernel's three loops: requests ahead, the main loop, the last waits. -/
module

public import proofs.«01_k».proof.Proof.KernelIdeal.TripParts
public import Idealize.SL.BI.BigOpNat

@[expose] public section

set_option maxRecDepth 16384

noncomputable section

namespace Cert.KernelIdeal.Hand

open Cert.KernelIdeal Cert.KernelIdeal.Gen Cert.Tile
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable (c : Dev nD) (x : Inp F)

/-! ## From one tile to the next -/

theorem codes_next {s : ℕ} (hs : s < 390) : codesPost c x (tE s).val (tI s).val (tJ s).val = codesPre c x (tile (s + 1)).1 (tile (s + 1)).2.1 (tile (s + 1)).2.2 := by
  have hj := tJ_lt (s := s) (by omega)
  have hij := tI_le (s := s) (by omega)
  rw [tE_val hs, tI_val (by omega), tJ_val (by omega), tile_succ]
  generalize tile s = t at hj hij ⊢
  obtain ⟨e, i, j⟩ := t
  dsimp only at hj hij
  unfold codesPost codesPre nx
  dsimp only
  by_cases h1 : j + 1 = 12
  · obtain rfl : j = 11 := by omega
    rw [if_pos h1]
    by_cases h2 : i + 1 = 12
    · obtain rfl : i = 11 := by omega
      simp
    · simp [h2]
  · have h11 : ¬ j = 11 := by omega
    simp [h11, h1]

theorem rows_next {s : ℕ} (hs : s < 390) : xtSt c x (tE s) (rowsPost (tI s).val (tJ s).val) ⊢ xtSt c x (tE (s + 1)) (rowsPre (tile (s + 1)).2.1 (tile (s + 1)).2.2) := by
  have hj := tJ_lt (s := s) (by omega)
  have hij := tI_le (s := s) (by omega)
  rw [tI_val (by omega), tJ_val (by omega)]
  have hcase : ((tile (s + 1)).1 = (tile s).1 ∧ rowsPost (tile s).2.1 (tile s).2.2 = rowsPre (tile (s + 1)).2.1 (tile (s + 1)).2.2) ∨ rowsPre (tile (s + 1)).2.1 (tile (s + 1)).2.2 = 0 := by
    rw [tile_succ]
    generalize tile s = t at hj hij ⊢
    obtain ⟨e, i, j⟩ := t
    dsimp only at hj hij
    unfold nx rowsPost rowsPre
    dsimp only
    by_cases h1 : j + 1 = 12
    · obtain rfl : j = 11 := by omega
      by_cases h2 : i + 1 = 12
      · right; simp [h2]
      · left; simp [h2]
    · left; simp [h1]
  rcases hcase with ⟨h1, h2⟩ | h
  · rw [h2, show tE (s + 1) = tE s from congrArg (Fin.ofNat 5) h1]
  · rw [h]
    unfold xtSt
    iintro ⟨%f, H, -⟩
    iexists f
    isplitl [H]
    · iexact H
    · ipureintro
      intro r l hr
      exact absurd hr (Nat.not_lt_zero _)

theorem raw_split (Φ : ℕ → sProp (MM F)) {s : ℕ} (hs : s < 390) : bigSep (Finset.Ico s 390) Φ = iprop(Φ s ∗ bigSep (Finset.Ico (s + 1) 390) Φ) := by
  rw [show Finset.Ico s 390 = insert s (Finset.Ico (s + 1) 390) by ext a; simp only [Finset.mem_insert, Finset.mem_Ico]; omega]
  exact (bigSep_insert (by simp)).trans rfl

theorem done_next (s : ℕ) : iprop((if 8 ≤ s then outDone c x (s - 8) else iprop(emp)) ∗ bigSep (Finset.range (s - 8)) (fun s => outDone c x s))
    ⊢ bigSep (Finset.range (s + 1 - 8)) (fun s => outDone c x s) := by
  by_cases h8 : 8 ≤ s
  · rw [if_pos h8, show s + 1 - 8 = s - 8 + 1 by omega, bigSep_range_succ]
  · rw [if_neg h8, show s + 1 - 8 = s - 8 by omega]
    iintro ⟨-, H⟩
    iexact H

theorem sge_iff (k : Fin k0_t2_loop.trips) : Scalar.cmpi .sge (Scf.iv 0#32 1#32 k) 8#32 = if 8 ≤ k.val then 1#1 else 0#1 := by
  revert k; decide +kernel

theorem sel_one {α : Type} (a b : α) : Scalar.select (1#1) a b = a := if_pos rfl
theorem sel_zero {α : Type} (a b : α) : Scalar.select (0#1) a b = b := if_neg (by decide)

theorem words_zero : ((0#32, 0#32, 0#32) : BitVec 32 × BitVec 32 × BitVec 32) = (wE 0, wI 0, wJ 0) := rfl

/-! ## The main loop -/

/-- The words the main loop carries before step `s`. -/
def words (s : ℕ) : BitVec 32 × BitVec 32 × BitVec 32 × BitVec 32 × BitVec 32 × BitVec 32 × BitVec 32 × BitVec 32 × BitVec 32 :=
  (wE s, wI s, wJ s, wE (s + 12), wI (s + 12), wJ (s + 12), wE (s - 8), wI (s - 8), wJ (s - 8))

attribute [local irreducible] Cert.Tile.tile Cert.KernelIdeal.Hand.nxW

/-- The words carried, one step on. -/
def nextWords (k : Fin k0_t2_loop.trips) (a : BitVec 32 × BitVec 32 × BitVec 32) (b : BitVec 32 × BitVec 32 × BitVec 32) (d : BitVec 32 × BitVec 32 × BitVec 32) :
    BitVec 32 × BitVec 32 × BitVec 32 × BitVec 32 × BitVec 32 × BitVec 32 × BitVec 32 × BitVec 32 × BitVec 32 :=
  ((nxW a.1 a.2.1 a.2.2).1, (nxW a.1 a.2.1 a.2.2).2.1, (nxW a.1 a.2.1 a.2.2).2.2, (nxW b.1 b.2.1 b.2.2).1, (nxW b.1 b.2.1 b.2.2).2.1, (nxW b.1 b.2.1 b.2.2).2.2,
    Scalar.select (Scalar.cmpi .sge (Scf.iv 0#32 1#32 k) 8#32) (nxW d.1 d.2.1 d.2.2).1 d.1, Scalar.select (Scalar.cmpi .sge (Scf.iv 0#32 1#32 k) 8#32) (nxW d.1 d.2.1 d.2.2).2.1 d.2.1,
    Scalar.select (Scalar.cmpi .sge (Scf.iv 0#32 1#32 k) 8#32) (nxW d.1 d.2.1 d.2.2).2.2 d.2.2)

theorem nextWords_eq (k : Fin k0_t2_loop.trips) (s : ℕ) (hs : s = k.val) (hs' : s < 390) :
    nextWords k (wE s, wI s, wJ s) (wE (s + 12), wI (s + 12), wJ (s + 12)) (wE (s - 8), wI (s - 8), wJ (s - 8)) = words (s + 1) := by
  unfold nextWords words
  rw [sge_iff, ← hs]
  dsimp only
  rw [nxW_step (s := s) (by omega), nxW_step (s := s + 12) (by omega), nxW_step (s := s - 8) (by omega)]
  by_cases h8 : 8 ≤ s
  · rw [if_pos h8, show s + 1 - 8 = s - 8 + 1 by omega, show s + 1 + 12 = s + 12 + 1 by omega]; simp only [sel_one]
  · rw [if_neg h8, show s + 1 - 8 = s - 8 by omega, show s + 1 + 12 = s + 12 + 1 by omega]; simp only [sel_zero]

/-- What holds before step `s`. -/
def mainSt (s : ℕ) : sProp (MM F) :=
  iprop(codesPre c x (tile s).1 (tile s).2.1 (tile s).2.2 ∗ scalesP c x ∗ sizesP c x ∗ xtSt c x (tE s) (rowsPre (tile s).2.1 (tile s).2.2) ∗ owing c
    ∗ aRing c x (s - 8) s ∗ bRing c x (s - 8) s ∗ hRing c x s (min (s + 12) 390) ∗ countsP c x
    ∗ bigSep (Finset.Ico s 390) (fun s => outRaw c s) ∗ bigSep (Finset.range (s - 8)) (fun s => outDone c x s))

set_option maxHeartbeats 4000000 in
theorem main_step (k : Fin k0_t2_loop.trips) (acc) :
    iprop(⌜acc = words k.val⌝ ∗ mainSt c x k.val) ⊢ WP c (k0_t2_body sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10 k acc) (fun acc' => iprop(⌜acc' = words (k.val + 1)⌝ ∗ mainSt c x (k.val + 1))) := by
  obtain ⟨s, hs⟩ : ∃ s, s = k.val := ⟨_, rfl⟩
  have hs' : s < 390 := hs ▸ lt_of_lt_of_eq k.isLt (by decide)
  rw [← hs]
  have hE : wE s = wd (tE s).val := wE_eq hs'
  have hI : wI s = wd (tI s).val := wI_eq (by omega)
  have hJ : wJ s = wd (tJ s).val := wJ_eq (by omega)
  have hE3 : wE (s - 8) = wd (tE (s - 8)).val := wE_eq (by omega)
  have hI3 : wI (s - 8) = wd (tI (s - 8)).val := wI_eq (by omega)
  have hJ3 : wJ (s - 8) = wd (tJ (s - 8)).val := wJ_eq (by omega)
  have h6 : k0_chk6 k (wE (s + 12)) (wI (s + 12)) (wJ (s + 12)) := by
    by_cases h : s + 12 < 390
    · rw [wE_eq h, wI_eq (by omega), wJ_eq (by omega)]; exact chk6_ok k _ _ _
    · exact chk6_past k (hs ▸ h) _ _ _
  have hw : nextWords k (wE s, wI s, wJ s) (wE (s + 12), wI (s + 12), wJ (s + 12)) (wE (s - 8), wI (s - 8), wJ (s - 8)) = words (s + 1) := nextWords_eq k s hs hs'
  have hx1 : (tile s).1 = (tE s).val := (tE_val hs').symm
  have hx2 : (tile s).2.1 = (tI s).val := (tI_val (by omega)).symm
  have hx3 : (tile s).2.2 = (tJ s).val := (tJ_val (by omega)).symm
  have hle : (tI s).val ≤ (tJ s).val := by rw [← hx2, ← hx3]; exact tI_le (by omega)
  iintro ⟨%hacc, H⟩
  subst hacc
  unfold words k0_t2_body
  rw [hE, hI, hJ, hE3, hI3, hJ3] at hw
  rw [hE, hI, hJ, hE3, hI3, hJ3]
  dsimp only
  iapply (WP_bind c _ _ _)
  iapply (part1_run c x k s hs hs' _ _ _ h6 _)
  unfold mainSt pre1
  rw [hx1, hx2, hx3, raw_split _ hs']
  icases H with ⟨Hc, Hs, Hz, Hx, HW, Ha, Hb, Hh, Hn, ⟨Ho, Hraw⟩, Hdone⟩
  isplitl [Hc Hs Hz Hx HW Ha Hb Hh Hn]
  · isplitl [Hc]
    · iexact Hc
    isplitl [Hs]
    · iexact Hs
    isplitl [Hz]
    · iexact Hz
    isplitl [Hx]
    · iexact Hx
    isplitl [HW]
    · iexact HW
    isplitl [Ha]
    · iexact Ha
    isplitl [Hb]
    · iexact Hb
    isplitl [Hh]
    · iexact Hh
    · iexact Hn
  iintro H
  unfold post1 xtSt
  icases H with ⟨Hc, Hs, Hz, ⟨%fx, Hx, %hfx⟩, HW, Hd, Ha, Hb, ⟨%fh, Hh, %hfh⟩, Hhr, Hn⟩
  dsimp only
  icases a_take c x (by omega : s + 1 - 8 ≤ s) (by omega) $$ Ha with ⟨⟨Hsa, ⟨%fa, Ha⟩⟩, Hra⟩
  icases b_take c x (by omega : s + 1 - 8 ≤ s) (by omega) $$ Hb with ⟨⟨Hsb, ⟨%fb, Hb⟩⟩, Hrb⟩
  iapply (WP_bind c _ _ _)
  iapply (part2_run c x k s hs (rowsPost (tI s).val (tJ s).val) (by unfold rowsPost; split <;> omega) (by unfold rowsPost; split <;> omega) _ _ _ _ fx hfx fh hfh fa fb _)
  isplitl [Hx]
  · iexact Hx
  isplitl [Hh]
  · iexact Hh
  isplitl [Ha]
  · iexact Ha
  isplitl [Hb]
  · iexact Hb
  iintro ⟨Hx, Hh, Ha, Hb⟩
  dsimp only
  ihave Hhr := Hhr $$ [Hh]
  · iexists fh
    iexact Hh
  iapply (WP_bind c _ _ _)
  iapply (part3_run c x k s hs _ _ _ _ _ _ h6 (fun h => ⟨wE_eq h, wI_eq (by omega), wJ_eq (by omega)⟩) _ _ fa fb _)
  isplitl [Ha]
  · iexact Ha
  isplitl [Hb]
  · iexact Hb
  isplitl [Hhr]
  · iexact Hhr
  isplitl [Hsa]
  · iexact Hsa
  isplitl [Hra]
  · iexact Hra
  isplitl [Hsb]
  · iexact Hsb
  isplitl [Hrb]
  · iexact Hrb
  isplitl [Ho]
  · iexact Ho
  iintro ⟨Hh, Ha, Hb⟩
  dsimp only
  iapply (WP_pure c _ _)
  isplitr [Hc Hs Hz Hx HW Ha Hb Hh Hn Hraw Hdone Hd]
  · ipureintro
    unfold nextWords nxW at hw
    dsimp only at hw
    unfold nxW
    dsimp only
    exact hw
  rw [← codes_next c x hs']
  isplitl [Hc]
  · iexact Hc
  isplitl [Hs]
  · iexact Hs
  isplitl [Hz]
  · iexact Hz
  isplitl [Hx]
  · have hr := rows_next c x hs'
    unfold xtSt at hr
    iapply hr
    iexists fx
    isplitl [Hx]
    · iexact Hx
    · ipureintro; exact hfx
  isplitl [HW]
  · iexact HW
  isplitl [Ha]
  · iexact Ha
  isplitl [Hb]
  · iexact Hb
  isplitl [Hh]
  · iexact Hh
  isplitl [Hn]
  · iexact Hn
  isplitl [Hraw]
  · iexact Hraw
  iapply (done_next c x s)
  isplitl [Hd]
  · iexact Hd
  · iexact Hdone

theorem main_run (acc) (hacc : acc = words 0) (Q : _ → sProp (MM F)) :
    iprop(mainSt c x 0 ∗ (mainSt c x 390 -∗ Q (words 390))) ⊢ WP c (Scf.Loop.for k0_t2_loop k0_t2_ok acc (k0_t2_body sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10)) Q := by
  have ht : Scf.trips k0_t2_loop.lb k0_t2_loop.ub k0_t2_loop.st = 390 := by decide
  subst hacc
  iintro ⟨H, Hk⟩
  iapply (Scf.wp_for frame (wpE (defs₀ (F := F)) Variants.none (c : Thread nD τ) none) Set.univ _ _ _ k0_t2_ok (words 0) _
    (fun s acc => iprop(⌜acc = words s⌝ ∗ mainSt c x s)) (main_step c x))
  isplitl [H]
  · isplitr [H]
    · ipureintro; rfl
    · iexact H
  · iintro %acc H
    rw [ht]
    icases H with ⟨%hacc, H⟩
    subst hacc
    iapply Hk
    iexact H

/-! ## The requests ahead -/

set_option maxHeartbeats 1000000 in
theorem ahead_step (k : Fin k0_t1_loop.trips) (acc) :
    iprop(⌜acc = (wE k.val, wI k.val, wJ k.val)⌝ ∗ hRing c x 0 k.val) ⊢ WP c (k0_t1_body sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10 k acc) (fun acc' => iprop(⌜acc' = (wE (k.val + 1), wI (k.val + 1), wJ (k.val + 1))⌝ ∗ hRing c x 0 (k.val + 1))) := by
  obtain ⟨s, hs⟩ : ∃ s, s = k.val := ⟨_, rfl⟩
  have hs' : s < 12 := hs ▸ lt_of_lt_of_eq k.isLt (by decide)
  rw [← hs]
  have hE : wE s = wd (tE s).val := wE_eq (by omega)
  have hI : wI s = wd (tI s).val := wI_eq (by omega)
  have hJ : wJ s = wd (tJ s).val := wJ_eq (by omega)
  have hk : k.val = (Ring.sl 12 s).val := by rw [Ring.sl_val, ← hs]; omega
  have hw := nxW_step (s := s) (by omega)
  iintro ⟨%hacc, H⟩
  subst hacc
  unfold k0_t1_body
  rw [hE, hI, hJ] at hw
  rw [hE, hI, hJ]
  dsimp only
  iapply (WP_bind c _ _ _)
  iapply (WP_assume c _ _ (chk1_ok (tE s) (tI s) (tJ s)) _)
  iapply (WP_bind c _ _ _)
  iapply (h_issue c x (by omega : 0 ≤ s) (by omega) (hBlk_eq (off3_eq _ _ _) _) (hSlot_eq (by rw [k0_off2_eq, hk]) _) (hSem_eq (by rw [k0_off1_eq, hk]) _) _ _ _ _)
  isplitl [H]
  · iexact H
  iintro H
  iapply (WP_pure c _ _)
  isplitr [H]
  · ipureintro
    unfold nxW at hw
    dsimp only at hw
    exact hw
  · iexact H

theorem ahead_run (acc) (hacc : acc = (wE 0, wI 0, wJ 0)) (Q : _ → sProp (MM F)) :
    iprop(hRing c x 0 0 ∗ (hRing c x 0 12 -∗ Q (wE 12, wI 12, wJ 12))) ⊢ WP c (Scf.Loop.for k0_t1_loop k0_t1_ok acc (k0_t1_body sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10)) Q := by
  have ht : Scf.trips k0_t1_loop.lb k0_t1_loop.ub k0_t1_loop.st = 12 := by decide
  subst hacc
  iintro ⟨H, Hk⟩
  iapply (Scf.wp_for frame (wpE (defs₀ (F := F)) Variants.none (c : Thread nD τ) none) Set.univ _ _ _ k0_t1_ok (wE 0, wI 0, wJ 0) _
    (fun s acc => iprop(⌜acc = (wE s, wI s, wJ s)⌝ ∗ hRing c x 0 s)) (ahead_step c x))
  isplitl [H]
  · isplitr [H]
    · ipureintro; rfl
    · iexact H
  · iintro %acc H
    rw [ht]
    icases H with ⟨%hacc, H⟩
    subst hacc
    iapply Hk
    iexact H

/-! ## The last waits -/

/-- The wait for a transposed tile written at the end. -/
noncomputable def pG (k0_t4 : Fin k0_t4_loop.trips) (arg19 arg20 arg21 : BitVec 32) (k0_hw7 : k0_chk7 arg19 arg20 arg21) : Prog (TpuEff nD τ sig (Elt F) Λ₀ .tc) PUnit := do
  if k0_h8 : k0_cond8 arg20 arg21 = 1#1 then do
    let v51 : DmaSems sig S1 := cc0_scratch10.slice (Rect.unit (s := S8) (k0_off40 k0_t4) S1.size (k0_off40_inb k0_t4))
    let v52 : DmaSems sig S_ := v51.squeeze S_ squeezes_S1_S_
    let v53 : Memref sig .tc .hbm S1x512x512 .f32 := outH.slice (Rect.unit (s := S5x6144x6144) (k0_off41 arg19 arg20 arg21) S1x512x512.size (k0_off41_inb arg19 arg20 arg21 k0_hw7 k0_h8)) (fun _ => rfl)
    let v54 : Memref sig .tc .hbm S512x512 .f32 := v53.squeeze S512x512 squeezes_S1x512x512_S512x512
    let v55 : Memref sig .tc .vmem S1x512x512 .f32 := bV.slice (Rect.unit (s := S8x512x512) (k0_off42 k0_t4) S1x512x512.size (k0_off42_inb k0_t4)) (fun _ => rfl)
    let v56 : Memref sig .tc .vmem S512x512 .f32 := v55.squeeze S512x512 squeezes_S1x512x512_S512x512
    Prog.lift (.waitDma2 v52.sem v56 v54 ((View.wordExact_bits rfl).reshape _ _) ((View.wordExact_bits rfl).reshape _ _))
    pure ⟨⟩
  else do
    pure ⟨⟩

set_option maxHeartbeats 1000000 in
theorem t4_body_eq (k : Fin k0_t4_loop.trips) (e i j : BitVec 32) : k0_t4_body (F := F) sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10 k (e, i, j) = (do
    have k0_hw7 : k0_chk7 e i j := (← Prog.lift (TpuEff.assume (k0_chk7 e i j) (k0_chk7.dec e i j))).down
    let v31 : DmaSems sig S1 := cc0_scratch9.slice (Rect.unit (s := S8) (k0_off37 k) S1.size (k0_off37_inb k))
    let v32 : DmaSems sig S_ := v31.squeeze S_ squeezes_S1_S_
    let v33 : Memref sig .tc .hbm S1x512x512 .f32 := outH.slice (Rect.unit (s := S5x6144x6144) (k0_off38 e i j) S1x512x512.size (k0_off38_inb e i j k0_hw7)) (fun _ => rfl)
    let v34 : Memref sig .tc .hbm S512x512 .f32 := v33.squeeze S512x512 squeezes_S1x512x512_S512x512
    let v35 : Memref sig .tc .vmem S1x512x512 .f32 := aV.slice (Rect.unit (s := S8x512x512) (k0_off39 k) S1x512x512.size (k0_off39_inb k)) (fun _ => rfl)
    let v36 : Memref sig .tc .vmem S512x512 .f32 := v35.squeeze S512x512 squeezes_S1x512x512_S512x512
    Prog.lift (.waitDma2 v32.sem v36 v34 ((View.wordExact_bits rfl).reshape _ _) ((View.wordExact_bits rfl).reshape _ _))
    pG k e i j k0_hw7
    pure (nxW e i j)) := by
  unfold k0_t4_body pG nxW
  simp only [dite_bind, bind_assoc, pure_bind]

/-- What holds before the last wait of step `s`. -/
def lastSt (s : ℕ) : sProp (MM F) :=
  iprop(aRing c x s 390 ∗ bRing c x s 390 ∗ owing c ∗ bigSep (Finset.range s) (fun s => outDone c x s))

set_option maxHeartbeats 1000000 in
theorem last_step (k : Fin k0_t4_loop.trips) (acc) :
    iprop(⌜acc = (wE (382 + k.val), wI (382 + k.val), wJ (382 + k.val))⌝ ∗ lastSt c x (382 + k.val))
      ⊢ WP c (k0_t4_body sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10 k acc) (fun acc' => iprop(⌜acc' = (wE (382 + (k.val + 1)), wI (382 + (k.val + 1)), wJ (382 + (k.val + 1)))⌝ ∗ lastSt c x (382 + (k.val + 1)))) := by
  have hk' : k.val < 8 := lt_of_lt_of_eq k.isLt (by decide)
  obtain ⟨s, hs⟩ : ∃ s, s = 382 + k.val := ⟨_, rfl⟩
  rw [← Nat.add_assoc, ← hs]
  have hE : wE s = wd (tE s).val := wE_eq (by omega)
  have hI : wI s = wd (tI s).val := wI_eq (by omega)
  have hJ : wJ s = wd (tJ s).val := wJ_eq (by omega)
  have hk : (k.val + 382) % 8 = (Ring.sl 8 s).val := by rw [Ring.sl_val, hs, Nat.add_comm]
  have hw := nxW_step (s := s) (by omega)
  iintro ⟨%hacc, H⟩
  subst hacc
  rw [hE, hI, hJ] at hw
  rw [hE, hI, hJ, t4_body_eq, hw]
  unfold lastSt
  icases H with ⟨Ha, Hb, HW, Hd⟩
  iapply (WP_bind c _ _ _)
  iapply (WP_assume c _ _ (chk7_ok (tE s) (tI s) (tJ s)) _)
  iapply (WP_bind c _ _ _)
  iapply (a_await c x (by omega : s < 390) (by omega) (aSlot_eq (by rw [k0_off39_eq, hk]) _) (oBlk_eq (off38_eq _ _ _) _) (aSem_eq (by rw [k0_off37_eq, hk]) _) _ _ _)
  isplitl [Ha]
  · iexact Ha
  isplitl [HW]
  · iexact HW
  iintro ⟨Ho, Ha, HW⟩
  iapply (WP_bind c _ _ _)
  unfold pG
  iapply (WP_dite c (Pre := iprop(bRing c x s 390 ∗ owing c))
    (Post := iprop((if (tI s).val = (tJ s).val then iprop(emp) else heldAt c (oBlk (tE s) (tJ s) (tI s)) (tileTS x s)) ∗ bRing c x (s + 1) 390 ∗ owing c)) _ _ _ ?_ ?_ _)
  · intro h8 R
    have hne := (cond8_iff _ _).1 h8
    rw [if_neg hne]
    iintro ⟨⟨Hb, HW⟩, Hk⟩
    iapply (WP_bind c _ _ _)
    iapply (b_await c x (by omega : s < 390) (by omega) hne (bSlot_eq (by rw [k0_off42_eq, hk]) _) (oBlk_eq (off41_eq _ _ _) _) (bSem_eq (by rw [k0_off40_eq, hk]) _) _ _ _)
    isplitl [Hb]
    · iexact Hb
    isplitl [HW]
    · iexact HW
    iintro H
    iapply (WP_pure c _ _)
    iapply Hk
    iexact H
  · intro h8 R
    have he : (tI s).val = (tJ s).val := by
      by_contra h
      exact h8 ((cond8_iff _ _).2 h)
    rw [if_pos he]
    iintro ⟨⟨Hb, HW⟩, Hk⟩
    iapply (WP_pure c _ _)
    iapply Hk
    isplitr [Hb HW]
    · iempintro
    isplitl [Hb]
    · iapply (b_skip c x (by omega : s < 390) (by omega) he)
      iexact Hb
    · iexact HW
  isplitl [Hb HW]
  · isplitl [Hb]
    · iexact Hb
    · iexact HW
  iintro ⟨Ho', Hb, HW⟩
  iapply (WP_pure c _ _)
  isplitr [Ha Hb HW Hd Ho Ho']
  · ipureintro
    rfl
  isplitl [Ha]
  · iexact Ha
  isplitl [Hb]
  · iexact Hb
  isplitl [HW]
  · iexact HW
  rw [bigSep_range_succ]
  isplitl [Ho Ho']
  · unfold outDone
    isplitl [Ho]
    · iexact Ho
    · iexact Ho'
  · iexact Hd

theorem last_run (acc) (hacc : acc = (wE 382, wI 382, wJ 382)) (Q : _ → sProp (MM F)) :
    iprop(lastSt c x 382 ∗ (∀ acc', lastSt c x 390 -∗ Q acc')) ⊢ WP c (Scf.Loop.for k0_t4_loop k0_t4_ok acc (k0_t4_body sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10)) Q := by
  have ht : Scf.trips k0_t4_loop.lb k0_t4_loop.ub k0_t4_loop.st = 8 := by decide
  subst hacc
  iintro ⟨H, Hk⟩
  iapply (Scf.wp_for frame (wpE (defs₀ (F := F)) Variants.none (c : Thread nD τ) none) Set.univ _ _ _ k0_t4_ok (wE 382, wI 382, wJ 382) _
    (fun s acc => iprop(⌜acc = (wE (382 + s), wI (382 + s), wJ (382 + s))⌝ ∗ lastSt c x (382 + s))) (last_step c x))
  isplitl [H]
  · isplitr [H]
    · ipureintro; rfl
    · iexact H
  · iintro %acc H
    rw [ht]
    icases H with ⟨-, H⟩
    iapply Hk
    iexact H

end Cert.KernelIdeal.Hand

end
-- ==== Proof.KernelIdeal.Body.lean ====
/- The kernel's body. -/
module

public import proofs.«01_k».proof.Proof.KernelIdeal.Loops

@[expose] public section

set_option maxRecDepth 16384

noncomputable section

namespace Cert.KernelIdeal.Hand

open Cert.KernelIdeal Cert.KernelIdeal.Gen Cert.Tile
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable (c : Dev nD) (x : Inp F)

/-! ## The new numbers of rows -/

/-- The new numbers of rows seen. -/
def coutOf : S5.Idx → Elt F .i32 := fun a => Scalar.addi (x.counts a) (x.sizes a)

/-- The table of the new numbers of rows, at `f`. -/
abbrev coutP (f : BufOf F c coutM) : sProp (MM F) := coutM.view.loc (c : Thread nD τ) ↦[Finset.univ]{fullShare} f

theorem cout_store (r : Rect S5) (f : BufOf F c coutM) (v) (w w') (Q : _ → sProp (MM F)) :
    iprop(coutP c f ∗ (coutP c (coutM.view.writes (Elt F) f [⟨r, v⟩]) -∗ Q ⟨⟩))
      ⊢ WP c (Prog.lift (.store coutM r v Finset.univ w w')) Q := by
  iintro ⟨H, Hk⟩
  iapply (wp_store_writes₀ Variants.none (c : Thread nD τ) none Set.univ (m := coutM) (r := r) (S := Finset.univ) (Finset.subset_univ _)) $$ H
  iintro H
  iapply (le_wp_ret frame _ _ _ Q)
  iapply Hk
  iexact H

theorem coutWrites_apply (f : coutM.view.ty.Contents (Elt F)) (n : Fin 5) {o : Fin 1 → ℕ} (ho : o = ![n.val])
    (b : ∀ a, o a + S1.size a ≤ S5.size a) (v : Elt F .i32) (a : Fin 5) :
    coutM.view.read (Elt F) (coutM.view.writes (Elt F) f [⟨Rect.unit (s := S5) o S1.size b, fun _ => v⟩]) (ix1 a)
      = if a = n then v else coutM.view.read (Elt F) f (ix1 a) := by
  by_cases h : a = n
  · rw [if_pos h]
    refine View.read_writes_cons_unit_of_mem (v := coutM.view) (f := f) b (fun _ => v) [] (ix1 a) (ix1 (0 : Fin 1)) ho ?_
    intro d
    fin_cases d
    simp [ix1, h]
  · rw [if_neg h]
    refine (View.read_writes_cons_unit_of_not_mem (v := coutM.view) (f := f) b (fun _ => v) [] (ix1 a) ho 0 ?_)
    have : a.val ≠ n.val := fun e => h (Fin.ext e)
    simp [ix1]
    omega

theorem coutOf_writes (f : coutM.view.ty.Contents (Elt F)) (b0 b1 b2 b3 b4) :
    coutM.view.writes (Elt F) (coutM.view.writes (Elt F) (coutM.view.writes (Elt F) (coutM.view.writes (Elt F) (coutM.view.writes (Elt F) f
      [⟨Rect.unit (s := S5) ![0] S1.size b0, fun _ => Scalar.addi (x.counts (ix1 (0 : Fin 5))) (x.sizes (ix1 (0 : Fin 5)))⟩])
      [⟨Rect.unit (s := S5) ![1] S1.size b1, fun _ => Scalar.addi (x.counts (ix1 (1 : Fin 5))) (x.sizes (ix1 (1 : Fin 5)))⟩])
      [⟨Rect.unit (s := S5) ![2] S1.size b2, fun _ => Scalar.addi (x.counts (ix1 (2 : Fin 5))) (x.sizes (ix1 (2 : Fin 5)))⟩])
      [⟨Rect.unit (s := S5) ![3] S1.size b3, fun _ => Scalar.addi (x.counts (ix1 (3 : Fin 5))) (x.sizes (ix1 (3 : Fin 5)))⟩])
      [⟨Rect.unit (s := S5) ![4] S1.size b4, fun _ => Scalar.addi (x.counts (ix1 (4 : Fin 5))) (x.sizes (ix1 (4 : Fin 5)))⟩]
      = coutOf x := by
  have key : ∀ a : Fin 5, coutM.view.read (Elt F) (coutM.view.writes (Elt F) (coutM.view.writes (Elt F) (coutM.view.writes (Elt F) (coutM.view.writes (Elt F) (coutM.view.writes (Elt F) f
      [⟨Rect.unit (s := S5) ![0] S1.size b0, fun _ => Scalar.addi (x.counts (ix1 (0 : Fin 5))) (x.sizes (ix1 (0 : Fin 5)))⟩])
      [⟨Rect.unit (s := S5) ![1] S1.size b1, fun _ => Scalar.addi (x.counts (ix1 (1 : Fin 5))) (x.sizes (ix1 (1 : Fin 5)))⟩])
      [⟨Rect.unit (s := S5) ![2] S1.size b2, fun _ => Scalar.addi (x.counts (ix1 (2 : Fin 5))) (x.sizes (ix1 (2 : Fin 5)))⟩])
      [⟨Rect.unit (s := S5) ![3] S1.size b3, fun _ => Scalar.addi (x.counts (ix1 (3 : Fin 5))) (x.sizes (ix1 (3 : Fin 5)))⟩])
      [⟨Rect.unit (s := S5) ![4] S1.size b4, fun _ => Scalar.addi (x.counts (ix1 (4 : Fin 5))) (x.sizes (ix1 (4 : Fin 5)))⟩]) (ix1 a)
      = coutOf x (ix1 a) := by
    intro a
    refine (coutWrites_apply _ 4 rfl b4 _ a).trans ?_
    by_cases h : a = 4
    · rw [if_pos h, h]; rfl
    rw [if_neg h]
    refine (coutWrites_apply _ 3 rfl b3 _ a).trans ?_
    by_cases h : a = 3
    · rw [if_pos h, h]; rfl
    rw [if_neg h]
    refine (coutWrites_apply _ 2 rfl b2 _ a).trans ?_
    by_cases h : a = 2
    · rw [if_pos h, h]; rfl
    rw [if_neg h]
    refine (coutWrites_apply _ 1 rfl b1 _ a).trans ?_
    by_cases h : a = 1
    · rw [if_pos h, h]; rfl
    rw [if_neg h]
    refine (coutWrites_apply _ 0 rfl b0 _ a).trans ?_
    rw [if_pos (by omega), show a = 0 by omega]; rfl
  funext a
  obtain ⟨n, rfl⟩ : ∃ n : Fin 5, a = ix1 n := ⟨a 0, by funext d; fin_cases d; rfl⟩
  exact key n

/-! ## Before the main loop -/

/-- The scales, where they come from. -/
abbrev scalesHP : sProp (MM F) := scalesH.view.loc (c : Thread nD τ) ↦[scalesH.view.set]{fullShare} x.scales

set_option maxHeartbeats 4000000 in
theorem part4_run (Q : _ → sProp (MM F)) :
    iprop(semVal ((c : Thread nD τ), SemLoc.dma scalesSem) 0 ∗ heldAny c scalesV ∗ scalesHP c x ∗ codesFree c x ∗ hRing c x 0 0 ∗ countsP c x ∗ sizesP c x ∗ (∃ f, coutP c f) ∗ owing c
      ∗ ((semVal ((c : Thread nD τ), SemLoc.dma scalesSem) 0 ∗ scalesP c x ∗ scalesHP c x ∗ codesFlyF c x 0 ∗ hRing c x 0 12 ∗ countsP c x ∗ sizesP c x ∗ coutP c (coutOf x) ∗ owing c)
        -∗ Q ⟨wE 12, wI 12, wJ 12, 0#32, 0#32, 0#32⟩))
      ⊢ WP c (k0_part4 (F := F) sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10) Q := by
  rw [k0_part4_eq_skeleton]
  unfold k0_part4_skel
  iintro ⟨Hsem, Hv, Hs, Hc, Hh, Hn, Hz, ⟨%fo, Ho⟩, HW, Hk⟩
  iapply (WP_bind c _ _ _)
  iapply (copy_start c (M := scalesH) (D := scalesV) (sm := scalesSem) rfl rfl scalesSem_eq fullShare x.scales _ _ _ (by first | (show 0 < 72; omega) | (show 0 < 288; omega) | decide | (show 0 < 256; omega) | (show 0 < 160; omega) | (show 0 < 128; omega) | (show 0 < 512; omega)) _)
  isplitl [Hsem]
  · iexact Hsem
  isplitl [Hv]
  · iexact Hv
  isplitl [Hs]
  · iexact Hs
  iintro Hfl
  iapply (WP_bind c _ _ _)
  iapply (codes_start c x 0 (codesOf_eq rfl _) rfl codesSem_eq _ _ _ _)
  isplitl [Hc]
  · iexact Hc
  iintro Hc
  iapply (WP_bind c _ _ _)
  iapply (ahead_run c x _ words_zero _)
  isplitl [Hh]
  · iexact Hh
  iintro Hh
  dsimp only
  iapply (WP_bind c _ _ _)
  iapply (counts_word c x (e := 0) rfl _ _ _ _)
  isplitl [Hn]
  · iexact Hn
  iintro Hn
  iapply (WP_bind c _ _ _)
  iapply (sizes_word c x (e := 0) rfl _ _ _ _)
  isplitl [Hz]
  · iexact Hz
  iintro Hz
  iapply (WP_bind c _ _ _)
  iapply (word_op c coutM _ fullShare _ _ _ _)
  isplitl [Ho]
  · iexact Ho
  iintro Ho
  iapply (WP_bind c _ _ _)
  iapply (cout_store c _ _ _ _ _ _)
  isplitl [Ho]
  · iexact Ho
  iintro Ho
  iapply (WP_bind c _ _ _)
  iapply (counts_word c x (e := 1) rfl _ _ _ _)
  isplitl [Hn]
  · iexact Hn
  iintro Hn
  iapply (WP_bind c _ _ _)
  iapply (sizes_word c x (e := 1) rfl _ _ _ _)
  isplitl [Hz]
  · iexact Hz
  iintro Hz
  iapply (WP_bind c _ _ _)
  iapply (word_op c coutM _ fullShare _ _ _ _)
  isplitl [Ho]
  · iexact Ho
  iintro Ho
  iapply (WP_bind c _ _ _)
  iapply (cout_store c _ _ _ _ _ _)
  isplitl [Ho]
  · iexact Ho
  iintro Ho
  iapply (WP_bind c _ _ _)
  iapply (counts_word c x (e := 2) rfl _ _ _ _)
  isplitl [Hn]
  · iexact Hn
  iintro Hn
  iapply (WP_bind c _ _ _)
  iapply (sizes_word c x (e := 2) rfl _ _ _ _)
  isplitl [Hz]
  · iexact Hz
  iintro Hz
  iapply (WP_bind c _ _ _)
  iapply (word_op c coutM _ fullShare _ _ _ _)
  isplitl [Ho]
  · iexact Ho
  iintro Ho
  iapply (WP_bind c _ _ _)
  iapply (cout_store c _ _ _ _ _ _)
  isplitl [Ho]
  · iexact Ho
  iintro Ho
  iapply (WP_bind c _ _ _)
  iapply (counts_word c x (e := 3) rfl _ _ _ _)
  isplitl [Hn]
  · iexact Hn
  iintro Hn
  iapply (WP_bind c _ _ _)
  iapply (sizes_word c x (e := 3) rfl _ _ _ _)
  isplitl [Hz]
  · iexact Hz
  iintro Hz
  iapply (WP_bind c _ _ _)
  iapply (word_op c coutM _ fullShare _ _ _ _)
  isplitl [Ho]
  · iexact Ho
  iintro Ho
  iapply (WP_bind c _ _ _)
  iapply (cout_store c _ _ _ _ _ _)
  isplitl [Ho]
  · iexact Ho
  iintro Ho
  iapply (WP_bind c _ _ _)
  iapply (counts_word c x (e := 4) rfl _ _ _ _)
  isplitl [Hn]
  · iexact Hn
  iintro Hn
  iapply (WP_bind c _ _ _)
  iapply (sizes_word c x (e := 4) rfl _ _ _ _)
  isplitl [Hz]
  · iexact Hz
  iintro Hz
  iapply (WP_bind c _ _ _)
  iapply (word_op c coutM _ fullShare _ _ _ _)
  isplitl [Ho]
  · iexact Ho
  iintro Ho
  iapply (WP_bind c _ _ _)
  iapply (cout_store c _ _ _ _ _ _)
  isplitl [Ho]
  · iexact Ho
  iintro Ho
  rw [coutOf_writes x fo]
  iapply (WP_bind c _ _ _)
  iapply (copy_wait c (M := scalesH) (D := scalesV) (sm := scalesSem) rfl rfl scalesSem_eq fullShare x.scales _ _ _)
  isplitl [Hfl]
  · iexact Hfl
  isplitl [HW]
  · iexact HW
  iintro ⟨Hsem, Hv, Hs, HW⟩
  iapply (WP_pure c _ _)
  iapply Hk
  isplitl [Hsem]
  · iexact Hsem
  isplitl [Hv]
  · iexact Hv
  isplitl [Hs]
  · iexact Hs
  isplitl [Hc]
  · iexact Hc
  isplitl [Hh]
  · iexact Hh
  isplitl [Hn]
  · iexact Hn
  isplitl [Hz]
  · iexact Hz
  isplitl [Ho]
  · iexact Ho
  · iexact HW

/-! ## The body -/

/-- What the body takes. -/
def kPre : sProp (MM F) :=
  iprop(semVal ((c : Thread nD τ), SemLoc.dma scalesSem) 0 ∗ heldAny c scalesV ∗ scalesHP c x ∗ codesFree c x ∗ sizesP c x ∗ countsP c x ∗ (∃ f, coutP c f)
    ∗ heldAny c xtV ∗ hRing c x 0 0 ∗ aRing c x 0 0 ∗ bRing c x 0 0 ∗ bigSep (Finset.Ico 0 390) (fun s => outRaw c s) ∗ owing c)
/-- What the body leaves. -/
def kPost : sProp (MM F) :=
  iprop(semVal ((c : Thread nD τ), SemLoc.dma scalesSem) 0 ∗ heldAny c scalesV ∗ scalesHP c x ∗ codesFree c x ∗ sizesP c x ∗ countsP c x ∗ coutP c (coutOf x)
    ∗ heldAny c xtV ∗ hRing c x 390 390 ∗ aRing c x 390 390 ∗ bRing c x 390 390 ∗ bigSep (Finset.range 390) (fun s => outDone c x s) ∗ owing c)

theorem words_0 : (0#32, 0#32, 0#32, wE 12, wI 12, wJ 12, 0#32, 0#32, 0#32) = words 0 := rfl
theorem tile_0 : tile 0 = (0, 0, 0) := rfl
theorem tile_390 : tile 390 = (5, 0, 0) := by decide +kernel

theorem codesPre_first : codesFlyF c x 0 ⊢ codesPre c x 0 0 0 := by
  unfold codesPre
  rw [if_pos rfl, if_pos rfl, show codesFly c x 0 = codesFlyF c x 0 from dif_pos (by decide)]
theorem codesPre_end : codesPre c x 5 0 0 ⊢ codesFree c x := by
  unfold codesPre
  rw [if_pos rfl, if_pos rfl, show codesFly c x 5 = codesFree c x from dif_neg (by decide)]

attribute [local irreducible] Cert.Tile.tile

set_option maxHeartbeats 4000000 in
theorem body_run (Q : PUnit → sProp (MM F)) :
    iprop(kPre c x ∗ (kPost c x -∗ Q ⟨⟩)) ⊢ WP c (cc0_hessian_update (F := F) sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10) Q := by
  rw [cc0_hessian_update_eq_skeleton]
  unfold cc0_hessian_update_skel kPre
  iintro ⟨⟨Hsem, Hv, Hs, Hc, Hz, Hn, Ho, Hx, Hh, Ha, Hb, Hr, HW⟩, Hk⟩
  iapply (WP_bind c _ _ _)
  iapply (part4_run c x _)
  isplitl [Hsem]
  · iexact Hsem
  isplitl [Hv]
  · iexact Hv
  isplitl [Hs]
  · iexact Hs
  isplitl [Hc]
  · iexact Hc
  isplitl [Hh]
  · iexact Hh
  isplitl [Hn]
  · iexact Hn
  isplitl [Hz]
  · iexact Hz
  isplitl [Ho]
  · iexact Ho
  isplitl [HW]
  · iexact HW
  iintro ⟨Hsem, Hv, Hs, Hc, Hh, Hn, Hz, Ho, HW⟩
  dsimp only
  iapply (WP_bind c _ _ _)
  iapply (main_run c x _ words_0 _)
  unfold mainSt
  rw [tile_0, tile_390]
  isplitl [Hv Hc Hh Hn Hz HW Hx Ha Hb Hr]
  · isplitl [Hc]
    · iapply (codesPre_first c x)
      iexact Hc
    isplitl [Hv]
    · iexact Hv
    isplitl [Hz]
    · iexact Hz
    isplitl [Hx]
    · unfold xtSt
      icases Hx with ⟨%f, Hx⟩
      iexists f
      isplitl [Hx]
      · iexact Hx
      · ipureintro
        intro r l hr
        exact absurd hr (Nat.not_lt_zero _)
    isplitl [HW]
    · iexact HW
    isplitl [Ha]
    · iexact Ha
    isplitl [Hb]
    · iexact Hb
    isplitl [Hh]
    · iexact Hh
    isplitl [Hn]
    · iexact Hn
    isplitl [Hr]
    · iexact Hr
    · iempintro
  iintro ⟨Hc, Hv, Hz, Hx, HW, Ha, Hb, Hh, Hn, -, Hd⟩
  unfold words
  dsimp only
  iapply (WP_bind c _ _ _)
  iapply (last_run c x _ rfl _)
  unfold lastSt
  isplitl [HW Ha Hb Hd]
  · isplitl [Ha]
    · iexact Ha
    isplitl [Hb]
    · iexact Hb
    isplitl [HW]
    · iexact HW
    · iexact Hd
  iintro %acc ⟨Ha, Hb, HW, Hd⟩
  iapply (WP_pure c _ _)
  iapply Hk
  unfold kPost
  isplitl [Hsem]
  · iexact Hsem
  isplitl [Hv]
  · icases Hv with ⟨%f, Hv, -⟩
    iexists f
    iexact Hv
  isplitl [Hs]
  · iexact Hs
  isplitl [Hc]
  · iapply (codesPre_end c x)
    iexact Hc
  isplitl [Hz]
  · iexact Hz
  isplitl [Hn]
  · iexact Hn
  isplitl [Ho]
  · iexact Ho
  isplitl [Hx]
  · unfold xtSt
    icases Hx with ⟨%f, Hx, -⟩
    iexists f
    iexact Hx
  isplitl [Hh]
  · iexact Hh
  isplitl [Ha]
  · iexact Ha
  isplitl [Hb]
  · iexact Hb
  isplitl [Hd]
  · iexact Hd
  · iexact HW

end Cert.KernelIdeal.Hand

end
-- ==== Proof.KernelIdeal.Tiles.lean ====
/- The result array cut into the tiles the steps write, and joined again from the tiles. -/
module

public import proofs.«01_k».proof.Proof.KernelIdeal.Body

@[expose] public section

set_option maxRecDepth 16384

noncomputable section

namespace Cert.KernelIdeal.Hand

open Cert.KernelIdeal Cert.KernelIdeal.Gen Cert.Tile
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable (c : Dev nD) (x : Inp F)

/-! ## The elements of a tile, and those a step writes -/

/-- The elements of the tile `(e, i, j)`. -/
def tileSet (e : Fin 5) (i j : Fin 12) : Finset S5x6144x6144.Idx :=
  (Rect.unit (s := S5x6144x6144) ![e.val, 512 * i.val, 512 * j.val] S1x512x512.size (inbT e i j)).set

theorem mem_tileSet (e : Fin 5) (i j : Fin 12) (y : S5x6144x6144.Idx) :
    y ∈ tileSet e i j ↔ (y 0).val = e.val ∧ (y 1).val / 512 = i.val ∧ (y 2).val / 512 = j.val := by
  unfold tileSet
  rw [Rect.mem_set_unit]
  have e0 : ∀ a : Fin 3, (![e.val, 512 * i.val, 512 * j.val] : Fin 3 → ℕ) a = if a = 0 then e.val else if a = 1 then 512 * i.val else 512 * j.val := by
    intro a; fin_cases a <;> rfl
  constructor
  · intro H
    have h0 : e.val ≤ (y 0).val ∧ (y 0).val < e.val + 1 := H 0
    have h1 : 512 * i.val ≤ (y 1).val ∧ (y 1).val < 512 * i.val + 512 := H 1
    have h2 : 512 * j.val ≤ (y 2).val ∧ (y 2).val < 512 * j.val + 512 := H 2
    omega
  · rintro ⟨h0, h1, h2⟩ a
    fin_cases a
    · show e.val ≤ (y 0).val ∧ (y 0).val < e.val + 1; omega
    · show 512 * i.val ≤ (y 1).val ∧ (y 1).val < 512 * i.val + 512; omega
    · show 512 * j.val ≤ (y 2).val ∧ (y 2).val < 512 * j.val + 512; omega

theorem oBlk_set (e : Fin 5) (i j : Fin 12) : (oBlk e i j).view.set = tileSet e i j := (View.set_reshape _ _).trans (View.set_slice_whole _ _)

/-- The elements of the result that step `s` writes. -/
def stepSet (s : ℕ) : Finset S5x6144x6144.Idx :=
  if (tI s).val = (tJ s).val then tileSet (tE s) (tI s) (tJ s) else tileSet (tE s) (tI s) (tJ s) ∪ tileSet (tE s) (tJ s) (tI s)

/-- The row block or column block of an element. -/
def blkOf (r : Fin 6144) : Fin 12 := ⟨r.val / 512, by have := r.isLt; omega⟩
/-- The step that writes an element. -/
def stepAt (y : S5x6144x6144.Idx) : ℕ := stepF (y 0) (min (blkOf (y 1)) (blkOf (y 2))) (max (blkOf (y 1)) (blkOf (y 2)))
theorem stepAt_lt (y : S5x6144x6144.Idx) : stepAt y < 390 := stepF_lt _ _ _ (min_le_max (a := blkOf (y 1)) (b := blkOf (y 2)))

theorem mem_stepSet {s : ℕ} (hs : s < 390) (y : S5x6144x6144.Idx) : y ∈ stepSet s ↔ stepAt y = s := by
  have hk : stepAt y = s ↔ (y 0 = tE s ∧ min (blkOf (y 1)) (blkOf (y 2)) = tI s ∧ max (blkOf (y 1)) (blkOf (y 2)) = tJ s) := by
    constructor
    · intro h
      have hle : (min (blkOf (y 1)) (blkOf (y 2))).val ≤ (max (blkOf (y 1)) (blkOf (y 2))).val := min_le_max (a := blkOf (y 1)) (b := blkOf (y 2))
      rw [← h]; unfold stepAt
      exact ⟨(tE_stepF _ _ _ hle).symm, (tI_stepF _ _ _ hle).symm, (tJ_stepF _ _ _ hle).symm⟩
    · rintro ⟨h0, h1, h2⟩
      unfold stepAt; rw [h0, h1, h2]; exact stepF_tile hs
  rw [hk]
  have hij := tI_le_tJ (s := s) (by omega)
  have hy1 : (blkOf (y 1)).val = (y 1).val / 512 := rfl
  have hy2 : (blkOf (y 2)).val = (y 2).val / 512 := rfl
  have h0 : y 0 = tE s ↔ (y 0).val = (tE s).val := Fin.ext_iff
  rw [h0, Fin.ext_iff, Fin.ext_iff]
  have hmin : (min (blkOf (y 1)) (blkOf (y 2))).val = min (blkOf (y 1)).val (blkOf (y 2)).val := by
    rcases le_total (blkOf (y 1)) (blkOf (y 2)) with h | h
    · rw [min_eq_left h, min_eq_left (Fin.le_def.1 h)]
    · rw [min_eq_right h, min_eq_right (Fin.le_def.1 h)]
  have hmax : (max (blkOf (y 1)) (blkOf (y 2))).val = max (blkOf (y 1)).val (blkOf (y 2)).val := by
    rcases le_total (blkOf (y 1)) (blkOf (y 2)) with h | h
    · rw [max_eq_right h, max_eq_right (Fin.le_def.1 h)]
    · rw [max_eq_left h, max_eq_left (Fin.le_def.1 h)]
  rw [hmin, hmax, hy1, hy2]
  unfold stepSet
  split
  · rename_i he
    rw [mem_tileSet]
    omega
  · rename_i he
    rw [Finset.mem_union, mem_tileSet, mem_tileSet]
    omega

theorem stepSet_disjoint : ∀ s ∈ Finset.range 390, ∀ s' ∈ Finset.range 390, s ≠ s' → Disjoint (stepSet s) (stepSet s') := by
  intro s hs s' hs' hne
  rw [Finset.disjoint_left]
  intro y hy hy'
  rw [mem_stepSet (Finset.mem_range.1 hs)] at hy
  rw [mem_stepSet (Finset.mem_range.1 hs')] at hy'
  exact hne (hy.symm.trans hy')

theorem stepSet_cover : (Finset.range 390).biUnion stepSet = Finset.univ := by
  ext y
  simp only [Finset.mem_biUnion, Finset.mem_univ, iff_true]
  exact ⟨stepAt y, Finset.mem_range.2 (stepAt_lt y), (mem_stepSet (stepAt_lt y) y).2 rfl⟩

/-! ## The result array, cut -/

/-- The result array's contents. -/
abbrev OutBuf (F : FTy → Type) (c : Dev nD) : Type := Buf (Elt F) ((c : Thread nD τ).loc main_v0_0)

theorem tile_disjoint {s : ℕ} (he : ¬(tI s).val = (tJ s).val) : Disjoint (tileSet (tE s) (tI s) (tJ s)) (tileSet (tE s) (tJ s) (tI s)) := by
  rw [Finset.disjoint_left]
  intro y hy hy'
  rw [mem_tileSet] at hy hy'
  exact he (hy.2.1.symm.trans hy'.2.1)

theorem held_oBlk (e : Fin 5) (i j : Fin 12) (f : OutBuf F c) :
    (held c (oBlk e i j) f : sProp (MM F)) = (((c : Thread nD τ).loc main_v0_0) ↦[tileSet e i j]{fullShare} f : sProp (MM F)) :=
  congrArg (fun S => (((c : Thread nD τ).loc main_v0_0) ↦[S]{fullShare} f : sProp (MM F))) (oBlk_set e i j)

/-- The elements step `s` writes, before it did. -/
theorem raw_of (s : ℕ) (f : OutBuf F c) : (((c : Thread nD τ).loc main_v0_0) ↦[stepSet s]{fullShare} f : sProp (MM F)) ⊢ outRaw c s := by
  unfold outRaw stepSet
  by_cases he : (tI s).val = (tJ s).val
  · rw [if_pos he, if_pos he, ← held_oBlk]
    iintro H
    isplitl [H]
    · iexists f; iexact H
    · iempintro
  · rw [if_neg he, if_neg he]
    have h := (pointsTo_union (Ix := Unit) (Name := ℕ) (U := Pipeline.UD sig nD τ) (Lvl := ℕ) (ℓ := (c : Thread nD τ).loc main_v0_0) (q := fullShare) (f := f) (tile_disjoint he)).1
    rw [← held_oBlk, ← held_oBlk] at h
    iintro H
    icases h $$ H with ⟨H1, H2⟩
    isplitl [H1]
    · iexists f; iexact H1
    · iexists f; iexact H2

/-- The result array held whole is held tile by tile. -/
theorem out_split (f : OutBuf F c) : (((c : Thread nD τ).loc main_v0_0) ↦{fullShare} f : sProp (MM F)) ⊢ bigSep (Finset.Ico 0 390) (fun s => outRaw c s) := by
  have h := pointsTo_biUnion (Ix := Unit) (Name := ℕ) (U := Pipeline.UD sig nD τ) (Lvl := ℕ) (ℓ := (c : Thread nD τ).loc main_v0_0) (q := fullShare) (f := f) (Finset.range 390) stepSet stepSet_disjoint
  rw [stepSet_cover] at h
  rw [h, ← Finset.range_eq_Ico]
  exact bigSep_mono fun s _ => raw_of c s f

/-! ## The result array, joined -/

/-- The result array `f` holds what step `s` writes. -/
def DoneAt (f : OutBuf F c) (s : ℕ) : Prop :=
  (oBlk (tE s) (tI s) (tJ s)).view.read (Elt F) f = tileS x s
    ∧ (¬(tI s).val = (tJ s).val → (oBlk (tE s) (tJ s) (tI s)).view.read (Elt F) f = tileTS x s)

theorem read_of_eq {e : Fin 5} {i j : Fin 12} {f g : OutBuf F c} (h : ∀ y ∈ tileSet e i j, f y = g y) :
    (oBlk e i j).view.read (Elt F) f = (oBlk e i j).view.read (Elt F) g := by
  funext a
  rw [View.read_apply, View.read_apply]
  exact h _ (by rw [← oBlk_set]; exact Finset.mem_map_of_mem _ (Finset.mem_univ a))

theorem done_congr {s : ℕ} {f g : OutBuf F c} (h : ∀ y ∈ stepSet s, f y = g y) (hg : DoneAt c x g s) : DoneAt c x f s := by
  unfold stepSet at h
  by_cases he : (tI s).val = (tJ s).val
  · rw [if_pos he] at h
    exact ⟨(read_of_eq c h).trans hg.1, fun hne => absurd he hne⟩
  · rw [if_neg he] at h
    exact ⟨(read_of_eq c fun y hy => h y (Finset.mem_union_left _ hy)).trans hg.1,
      fun hne => (read_of_eq c fun y hy => h y (Finset.mem_union_right _ hy)).trans (hg.2 hne)⟩

/-- The elements step `s` writes, after it did. -/
theorem done_of (s : ℕ) : outDone c x s ⊢ (iprop(∃ f : OutBuf F c, ⌜DoneAt c x f s⌝ ∗ (((c : Thread nD τ).loc main_v0_0) ↦[stepSet s]{fullShare} f)) : sProp (MM F)) := by
  unfold outDone
  by_cases he : (tI s).val = (tJ s).val
  · rw [if_pos he]
    iintro ⟨⟨%f, H, %hf⟩, -⟩
    iexists f
    isplitr
    · ipureintro; exact ⟨hf, fun hne => absurd he hne⟩
    · unfold stepSet
      rw [if_pos he, ← held_oBlk]
      iexact H
  · rw [if_neg he]
    iintro ⟨⟨%f, H, %hf⟩, ⟨%g, H', %hg⟩⟩
    iexists (tileSet (tE s) (tJ s) (tI s)).piecewise g f
    isplitr
    · ipureintro
      refine ⟨(read_of_eq c fun y hy => ?_).trans hf, fun _ => (read_of_eq c fun y hy => ?_).trans hg⟩
      · exact Finset.piecewise_eq_of_notMem _ _ _ (Finset.disjoint_left.1 (tile_disjoint he) hy)
      · exact Finset.piecewise_eq_of_mem _ _ _ hy
    · unfold stepSet
      rw [if_neg he]
      iapply (pointsTo_join (Ix := Unit) (Name := ℕ) (U := Pipeline.UD sig nD τ) (Lvl := ℕ) (ℓ := (c : Thread nD τ).loc main_v0_0) (q := fullShare) (f := f) (g := g) (tile_disjoint he))
      isplitl [H]
      · rw [← held_oBlk]; iexact H
      · rw [← held_oBlk]; iexact H'

/-- The tiles join to the result array held whole, which holds what every step writes. -/
theorem out_join (f₀ : OutBuf F c) : bigSep (Finset.range 390) (fun s => outDone c x s)
    ⊢ (iprop(∃ f : OutBuf F c, ⌜∀ s, s < 390 → DoneAt c x f s⌝ ∗ (((c : Thread nD τ).loc main_v0_0) ↦{fullShare} f)) : sProp (MM F)) := by
  have : Nonempty (OutBuf F c) := ⟨f₀⟩
  refine BIBase.Entails.trans (bigSep_mono fun s _ => done_of c x s) ?_
  refine BIBase.Entails.trans (Idealize.SL.BI.bigSep_exists_pi (Finset.range 390) (fun s (f : OutBuf F c) => (iprop(⌜DoneAt c x f s⌝ ∗ (((c : Thread nD τ).loc main_v0_0) ↦[stepSet s]{fullShare} f)) : sProp (MM F)))) ?_
  iintro ⟨%fs, H⟩
  icases (Idealize.SL.BI.bigSep_pure_sep (Finset.range 390) (fun s => DoneAt c x (fs s) s) (fun s => (((c : Thread nD τ).loc main_v0_0) ↦[stepSet s]{fullShare} (fs s) : sProp (MM F)))) $$ H with ⟨%hfs, H⟩
  icases (pointsTo_biUnion_join (Ix := Unit) (Name := ℕ) (U := Pipeline.UD sig nD τ) (Lvl := ℕ) (ℓ := (c : Thread nD τ).loc main_v0_0) (q := fullShare) (Finset.range 390) stepSet fs f₀ stepSet_disjoint) $$ H with ⟨%g, %hg, H⟩
  iexists g
  isplitr
  · ipureintro
    intro s hs
    exact done_congr c x (hg s (Finset.mem_range.2 hs)) (hfs s (Finset.mem_range.2 hs))
  · rw [stepSet_cover]
    iexact H

end Cert.KernelIdeal.Hand

end
-- ==== Proof.KernelIdeal.Start.lean ====
/- The scratch buffers cut into the rings' slots and joined again, the kernel's own semaphores, and the rings with nothing in
   flight. -/
module

public import proofs.«01_k».proof.Proof.KernelIdeal.Tiles

@[expose] public section

set_option maxRecDepth 16384

noncomputable section

namespace Cert.KernelIdeal.Hand

open Cert.KernelIdeal Cert.KernelIdeal.Gen Cert.Tile
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable (c : Dev nD) (x : Inp F)

/-! ## A scratch buffer of slots, cut and joined -/

abbrev slotSet12 (k : Fin 12) : Finset S12x512x512.Idx := (Rect.unit (s := S12x512x512) ![k.val, 0, 0] S1x512x512.size (inb12 k)).set
abbrev slotSet8 (k : Fin 8) : Finset S8x512x512.Idx := (Rect.unit (s := S8x512x512) ![k.val, 0, 0] S1x512x512.size (inb8 k)).set

theorem mem_slotSet12 (k : Fin 12) (y : S12x512x512.Idx) : y ∈ slotSet12 k ↔ (y 0).val = k.val := by
  rw [Rect.mem_set_unit]
  have h1 : (y 1).val < 512 := (y 1).isLt
  have h2 : (y 2).val < 512 := (y 2).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 512; omega
    · show 0 ≤ (y 2).val ∧ (y 2).val < 0 + 512; omega
theorem mem_slotSet8 (k : Fin 8) (y : S8x512x512.Idx) : y ∈ slotSet8 k ↔ (y 0).val = k.val := by
  rw [Rect.mem_set_unit]
  have h1 : (y 1).val < 512 := (y 1).isLt
  have h2 : (y 2).val < 512 := (y 2).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 512; omega
    · show 0 ≤ (y 2).val ∧ (y 2).val < 0 + 512; omega

theorem slotSet12_disjoint : ∀ k k' : Fin 12, k ≠ k' → Disjoint (slotSet12 k) (slotSet12 k') := by
  intro s s' hne; rw [Finset.disjoint_left]; intro y hy hy'; rw [mem_slotSet12] at hy hy'; exact hne (Fin.ext (hy.symm.trans hy'))
theorem slotSet8_disjoint : ∀ k k' : Fin 8, k ≠ k' → Disjoint (slotSet8 k) (slotSet8 k') := by
  intro s s' hne; rw [Finset.disjoint_left]; intro y hy hy'; rw [mem_slotSet8] at hy hy'; exact hne (Fin.ext (hy.symm.trans hy'))
theorem slotSet12_cover : (Finset.univ : Finset (Fin 12)).biUnion slotSet12 = Finset.univ := by
  ext y; simp only [Finset.mem_biUnion, Finset.mem_univ, true_and, iff_true]; exact ⟨(y 0 : Fin 12), (mem_slotSet12 _ y).2 rfl⟩
theorem slotSet8_cover : (Finset.univ : Finset (Fin 8)).biUnion slotSet8 = Finset.univ := by
  ext y; simp only [Finset.mem_biUnion, Finset.mem_univ, true_and, iff_true]; exact ⟨(y 0 : Fin 8), (mem_slotSet8 _ y).2 rfl⟩

theorem hSlot_set (k : Fin 12) : (hSlot k).view.set = slotSet12 k := (View.set_reshape _ _).trans (View.set_slice_whole _ _)
theorem aSlot_set (k : Fin 8) : (aSlot k).view.set = slotSet8 k := (View.set_reshape _ _).trans (View.set_slice_whole _ _)
theorem bSlot_set (k : Fin 8) : (bSlot k).view.set = slotSet8 k := (View.set_reshape _ _).trans (View.set_slice_whole _ _)

/-- A scratch buffer held whole at anything. -/
abbrev anyAt (b : Ref sig .tc) : sProp (MM F) := iprop(∃ f : Buf (Elt F) ((c : Thread nD τ).loc b), ((c : Thread nD τ).loc b) ↦{fullShare} f)

theorem held_hSlot (k : Fin 12) (f : Buf (Elt F) ((c : Thread nD τ).loc cc0_scratch3)) :
    (held c (hSlot k) f : sProp (MM F)) = (((c : Thread nD τ).loc cc0_scratch3) ↦[slotSet12 k]{fullShare} f : sProp (MM F)) :=
  congrArg (fun S => (((c : Thread nD τ).loc cc0_scratch3) ↦[S]{fullShare} f : sProp (MM F))) (hSlot_set k)
theorem h_any (k : Fin 12) (f : Buf (Elt F) ((c : Thread nD τ).loc cc0_scratch3)) :
    (((c : Thread nD τ).loc cc0_scratch3) ↦[slotSet12 k]{fullShare} f : sProp (MM F)) ⊢ heldAny c (hSlot k) := by
  rw [← held_hSlot]
  iintro H
  iexists f
  iexact H
theorem h_whole (k : Fin 12) : (heldAny c (hSlot k) : sProp (MM F)) ⊢ iprop(∃ f : Buf (Elt F) ((c : Thread nD τ).loc cc0_scratch3), ((c : Thread nD τ).loc cc0_scratch3) ↦[slotSet12 k]{fullShare} f) := by
  iintro ⟨%f, H⟩
  iexists f
  rw [← held_hSlot]
  iexact H
theorem h_split : anyAt c cc0_scratch3 ⊢ (bigSep Finset.univ (fun k : Fin 12 => heldAny c (hSlot k)) : sProp (MM F)) := by
  iintro ⟨%f, H⟩
  have h : (((c : Thread nD τ).loc cc0_scratch3) ↦{fullShare} f : sProp (MM F)) ⊢ bigSep Finset.univ (fun k : Fin 12 => heldAny c (hSlot k)) := by
    rw [Ring.pointsTo_blocks (Ix := Unit) (Name := ℕ) (U := Pipeline.UD sig nD τ) (Lvl := ℕ) (q := fullShare) (ℓ := (c : Thread nD τ).loc cc0_scratch3) slotSet12 slotSet12_disjoint slotSet12_cover f]
    exact bigSep_mono fun k _ => h_any c k f
  iapply h
  iexact H
theorem h_join (f₀ : Buf (Elt F) ((c : Thread nD τ).loc cc0_scratch3)) : (bigSep Finset.univ (fun k : Fin 12 => heldAny c (hSlot k)) : sProp (MM F)) ⊢ anyAt c cc0_scratch3 := by
  refine BIBase.Entails.trans ?_ (Ring.pointsTo_blocks_join_exists (Ix := Unit) (Name := ℕ) (U := Pipeline.UD sig nD τ) (Lvl := ℕ) (q := fullShare) (ℓ := (c : Thread nD τ).loc cc0_scratch3) slotSet12 slotSet12_disjoint slotSet12_cover f₀)
  exact bigSep_mono fun k _ => h_whole c k

theorem held_aSlot (k : Fin 8) (f : Buf (Elt F) ((c : Thread nD τ).loc cc0_scratch4)) :
    (held c (aSlot k) f : sProp (MM F)) = (((c : Thread nD τ).loc cc0_scratch4) ↦[slotSet8 k]{fullShare} f : sProp (MM F)) :=
  congrArg (fun S => (((c : Thread nD τ).loc cc0_scratch4) ↦[S]{fullShare} f : sProp (MM F))) (aSlot_set k)
theorem a_any (k : Fin 8) (f : Buf (Elt F) ((c : Thread nD τ).loc cc0_scratch4)) :
    (((c : Thread nD τ).loc cc0_scratch4) ↦[slotSet8 k]{fullShare} f : sProp (MM F)) ⊢ heldAny c (aSlot k) := by
  rw [← held_aSlot]
  iintro H
  iexists f
  iexact H
theorem a_whole (k : Fin 8) : (heldAny c (aSlot k) : sProp (MM F)) ⊢ iprop(∃ f : Buf (Elt F) ((c : Thread nD τ).loc cc0_scratch4), ((c : Thread nD τ).loc cc0_scratch4) ↦[slotSet8 k]{fullShare} f) := by
  iintro ⟨%f, H⟩
  iexists f
  rw [← held_aSlot]
  iexact H
theorem a_split : anyAt c cc0_scratch4 ⊢ (bigSep Finset.univ (fun k : Fin 8 => heldAny c (aSlot k)) : sProp (MM F)) := by
  iintro ⟨%f, H⟩
  have h : (((c : Thread nD τ).loc cc0_scratch4) ↦{fullShare} f : sProp (MM F)) ⊢ bigSep Finset.univ (fun k : Fin 8 => heldAny c (aSlot k)) := by
    rw [Ring.pointsTo_blocks (Ix := Unit) (Name := ℕ) (U := Pipeline.UD sig nD τ) (Lvl := ℕ) (q := fullShare) (ℓ := (c : Thread nD τ).loc cc0_scratch4) slotSet8 slotSet8_disjoint slotSet8_cover f]
    exact bigSep_mono fun k _ => a_any c k f
  iapply h
  iexact H
theorem a_join (f₀ : Buf (Elt F) ((c : Thread nD τ).loc cc0_scratch4)) : (bigSep Finset.univ (fun k : Fin 8 => heldAny c (aSlot k)) : sProp (MM F)) ⊢ anyAt c cc0_scratch4 := by
  refine BIBase.Entails.trans ?_ (Ring.pointsTo_blocks_join_exists (Ix := Unit) (Name := ℕ) (U := Pipeline.UD sig nD τ) (Lvl := ℕ) (q := fullShare) (ℓ := (c : Thread nD τ).loc cc0_scratch4) slotSet8 slotSet8_disjoint slotSet8_cover f₀)
  exact bigSep_mono fun k _ => a_whole c k

theorem held_bSlot (k : Fin 8) (f : Buf (Elt F) ((c : Thread nD τ).loc cc0_scratch5)) :
    (held c (bSlot k) f : sProp (MM F)) = (((c : Thread nD τ).loc cc0_scratch5) ↦[slotSet8 k]{fullShare} f : sProp (MM F)) :=
  congrArg (fun S => (((c : Thread nD τ).loc cc0_scratch5) ↦[S]{fullShare} f : sProp (MM F))) (bSlot_set k)
theorem b_any (k : Fin 8) (f : Buf (Elt F) ((c : Thread nD τ).loc cc0_scratch5)) :
    (((c : Thread nD τ).loc cc0_scratch5) ↦[slotSet8 k]{fullShare} f : sProp (MM F)) ⊢ heldAny c (bSlot k) := by
  rw [← held_bSlot]
  iintro H
  iexists f
  iexact H
theorem b_whole (k : Fin 8) : (heldAny c (bSlot k) : sProp (MM F)) ⊢ iprop(∃ f : Buf (Elt F) ((c : Thread nD τ).loc cc0_scratch5), ((c : Thread nD τ).loc cc0_scratch5) ↦[slotSet8 k]{fullShare} f) := by
  iintro ⟨%f, H⟩
  iexists f
  rw [← held_bSlot]
  iexact H
theorem b_split : anyAt c cc0_scratch5 ⊢ (bigSep Finset.univ (fun k : Fin 8 => heldAny c (bSlot k)) : sProp (MM F)) := by
  iintro ⟨%f, H⟩
  have h : (((c : Thread nD τ).loc cc0_scratch5) ↦{fullShare} f : sProp (MM F)) ⊢ bigSep Finset.univ (fun k : Fin 8 => heldAny c (bSlot k)) := by
    rw [Ring.pointsTo_blocks (Ix := Unit) (Name := ℕ) (U := Pipeline.UD sig nD τ) (Lvl := ℕ) (q := fullShare) (ℓ := (c : Thread nD τ).loc cc0_scratch5) slotSet8 slotSet8_disjoint slotSet8_cover f]
    exact bigSep_mono fun k _ => b_any c k f
  iapply h
  iexact H
theorem b_join (f₀ : Buf (Elt F) ((c : Thread nD τ).loc cc0_scratch5)) : (bigSep Finset.univ (fun k : Fin 8 => heldAny c (bSlot k)) : sProp (MM F)) ⊢ anyAt c cc0_scratch5 := by
  refine BIBase.Entails.trans ?_ (Ring.pointsTo_blocks_join_exists (Ix := Unit) (Name := ℕ) (U := Pipeline.UD sig nD τ) (Lvl := ℕ) (q := fullShare) (ℓ := (c : Thread nD τ).loc cc0_scratch5) slotSet8 slotSet8_disjoint slotSet8_cover f₀)
  exact bigSep_mono fun k _ => b_whole c k

/-! ## The rings with nothing in flight -/

theorem inWin_none (lo n : ℕ) (k : Fin n) : Ring.inWin lo lo n k = none := by
  rw [Ring.inWin_eq_none_iff (by omega)]; intro y h1 h2; omega

theorem hRing_free (n : ℕ) : (hRing c x n n : sProp (MM F)) = iprop(bigSep Finset.univ (fun k : Fin 12 => semVal ((c : Thread nD τ), SemLoc.dma (hSem k)) 0)
    ∗ bigSep Finset.univ (fun k : Fin 12 => heldAny c (hSlot k)) ∗ bigSep Finset.univ (fun k : Fin 12 => tokH c x k Finset.univ)) := by
  unfold hRing Ring.AtW
  rw [← bigSep_sep', ← bigSep_sep']
  exact bigSep_congr fun k _ => by rw [inWin_none]; exact hSt_none c x k
theorem aRing_free (n : ℕ) : (aRing c x n n : sProp (MM F)) = iprop(bigSep Finset.univ (fun k : Fin 8 => semVal ((c : Thread nD τ), SemLoc.dma (aSem k)) 0)
    ∗ bigSep Finset.univ (fun k : Fin 8 => heldAny c (aSlot k))) := by
  unfold aRing Ring.AtW
  rw [← bigSep_sep']
  exact bigSep_congr fun k _ => by rw [inWin_none]; exact aSt_none c x k
theorem bRing_free (n : ℕ) : (bRing c x n n : sProp (MM F)) = iprop(bigSep Finset.univ (fun k : Fin 8 => semVal ((c : Thread nD τ), SemLoc.dma (bSem k)) 0)
    ∗ bigSep Finset.univ (fun k : Fin 8 => heldAny c (bSlot k))) := by
  unfold bRing Ring.AtW
  rw [← bigSep_sep']
  exact bigSep_congr fun k _ => by rw [inWin_none]; exact bSt_none c x k

/-! ## The kernel's own semaphores -/

/-- The kernel's own semaphores. -/
def osem0 : Fin 2 ⊕ (Fin 12 ⊕ (Fin 8 ⊕ Fin 8)) → SemLoc sig
  | .inl 0 => .dma codesSem
  | .inl 1 => .dma scalesSem
  | .inr (.inl k) => .dma (hSem k)
  | .inr (.inr (.inl k)) => .dma (aSem k)
  | .inr (.inr (.inr k)) => .dma (bSem k)

theorem ownSemFacts0 : Pipeline.OwnSemFacts spec0 osem0 := by decide

theorem ownSems0_eq : (Pipeline.ownSems0 (Ix := Unit) (Name := ℕ) (U := Pipeline.UD sig nD τ) (Lvl := ℕ) (Val := Elt F) (τ := τ) osem0 c : sProp (MM F))
    = iprop((semVal ((c : Thread nD τ), SemLoc.dma codesSem) 0 ∗ semVal ((c : Thread nD τ), SemLoc.dma scalesSem) 0)
      ∗ bigSep Finset.univ (fun k : Fin 12 => semVal ((c : Thread nD τ), SemLoc.dma (hSem k)) 0)
      ∗ bigSep Finset.univ (fun k : Fin 8 => semVal ((c : Thread nD τ), SemLoc.dma (aSem k)) 0)
      ∗ bigSep Finset.univ (fun k : Fin 8 => semVal ((c : Thread nD τ), SemLoc.dma (bSem k)) 0)) := by
  unfold Pipeline.ownSems0
  rw [bigSep_univ_sum, bigSep_univ_sum, bigSep_univ_sum]
  exact congrArg (fun P : sProp (MM F) => iprop(P ∗ _)) (bigSep_univ_eq_bigSepL [(0 : Fin 2), (1 : Fin 2)] (by decide) (by decide) _)

end Cert.KernelIdeal.Hand

end
-- ==== Proof.KernelIdeal.Handed.lean ====
/- What the launch hands the kernel and what the kernel gives back. -/
module

public import proofs.«01_k».proof.Proof.KernelIdeal.Start

@[expose] public section

set_option maxRecDepth 16384

noncomputable section

namespace Cert.KernelIdeal.Hand

open Cert.KernelIdeal Cert.KernelIdeal.Gen Cert.Tile
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable (c : Dev nD) (x : Inp F)

/-! ## What the launch hands the kernel, and what the kernel gives back -/

theorem any_whole (b : Ref sig .tc) : (anyAt c b : sProp (MM F)) = iprop(∃ f : Buf (Elt F) ((c : Thread nD τ).loc b), ((c : Thread nD τ).loc b) ↦[(Memref.whole b).view.set]{fullShare} f) := by
  rw [show (Memref.whole b).view.set = Finset.univ from View.set_whole b]

/-- What the kernel is handed: its semaphores at zero, its scratch buffers at anything, the inputs, the result at anything. -/
def handed (x : Inp F) : sProp (MM F) :=
  iprop(Pipeline.ownSems0 (Ix := Unit) (Name := ℕ) (U := Pipeline.UD sig nD τ) (Lvl := ℕ) (Val := Elt F) (τ := τ) osem0 c
    ∗ (anyAt c cc0_scratch0 ∗ anyAt c cc0_scratch1 ∗ anyAt c cc0_scratch2 ∗ anyAt c cc0_scratch3 ∗ anyAt c cc0_scratch4 ∗ anyAt c cc0_scratch5)
    ∗ codesP c x Finset.univ ∗ (scalesH.view.loc (c : Thread nD τ) ↦{fullShare} x.scales) ∗ (hH.view.loc (c : Thread nD τ) ↦{fullShare} x.hess)
    ∗ ∃ f : OutBuf F c, ((c : Thread nD τ).loc main_v0_0) ↦{fullShare} f)
/-- What it gives back: the same, the result at what every step writes. -/
def given (x : Inp F) : sProp (MM F) :=
  iprop(Pipeline.ownSems0 (Ix := Unit) (Name := ℕ) (U := Pipeline.UD sig nD τ) (Lvl := ℕ) (Val := Elt F) (τ := τ) osem0 c
    ∗ (anyAt c cc0_scratch0 ∗ anyAt c cc0_scratch1 ∗ anyAt c cc0_scratch2 ∗ anyAt c cc0_scratch3 ∗ anyAt c cc0_scratch4 ∗ anyAt c cc0_scratch5)
    ∗ codesP c x Finset.univ ∗ (scalesH.view.loc (c : Thread nD τ) ↦{fullShare} x.scales) ∗ (hH.view.loc (c : Thread nD τ) ↦{fullShare} x.hess)
    ∗ ∃ f : OutBuf F c, ⌜∀ s, s < 390 → DoneAt c x f s⌝ ∗ (((c : Thread nD τ).loc main_v0_0) ↦{fullShare} f))

/-- The share of the Hessian no slot reads. -/
abbrev hRem : sProp (MM F) := hH.view.loc (c : Thread nD τ) ↦[Finset.univ]{Transfers.shareDrop fullShare 12} x.hess

theorem scales_whole : (scalesHP c x : sProp (MM F)) = (scalesH.view.loc (c : Thread nD τ) ↦{fullShare} x.scales : sProp (MM F)) := by
  unfold scalesHP
  rw [show scalesH.view.set = Finset.univ from View.set_whole main_arg1]

theorem handed_pre : iprop(handed c x ∗ sizesP c x ∗ countsP c x ∗ (∃ f, coutP c f) ∗ owing c) ⊢ iprop(kPre c x ∗ hRem c x) := by
  unfold handed kPre codesFree
  rw [ownSems0_eq, hRing_free, aRing_free, bRing_free, scales_whole, any_whole c cc0_scratch0, any_whole c cc0_scratch1, any_whole c cc0_scratch2]
  iintro ⟨⟨⟨⟨Hs3, Hs4⟩, Hsh, Hsa, Hsb⟩, ⟨H0, H1, H2, H3, H4, H5⟩, Hc, Hsc, Hh, ⟨%f, Ho⟩⟩, Hz, Hn, Hco, HW⟩
  icases (Transfers.pointsTo_toks_split (Ix := Unit) (Name := ℕ) (U := Pipeline.UD sig nD τ) (Lvl := ℕ) (ℓ := hH.view.loc (c : Thread nD τ)) (S := Finset.univ) (f := x.hess) fullShare 12) $$ Hh with ⟨Hrem, Hh⟩
  ihave H3 := (h_split c) $$ H3
  ihave H4 := (a_split c) $$ H4
  ihave H5 := (b_split c) $$ H5
  ihave Ho := (out_split c f) $$ Ho
  isplitr [Hrem]
  rotate_left
  · iexact Hrem
  isplitl [Hs4]
  · iexact Hs4
  isplitl [H1]
  · iexact H1
  isplitl [Hsc]
  · iexact Hsc
  isplitl [Hs3 H0 Hc]
  · isplitl [Hs3]
    · iexact Hs3
    isplitl [H0]
    · iexact H0
    · iexact Hc
  isplitl [Hz]
  · iexact Hz
  isplitl [Hn]
  · iexact Hn
  isplitl [Hco]
  · iexact Hco
  isplitl [H2]
  · iexact H2
  isplitl [Hsh H3 Hh]
  · isplitl [Hsh]
    · iexact Hsh
    isplitl [H3]
    · iexact H3
    · iexact Hh
  isplitl [Hsa H4]
  · isplitl [Hsa]
    · iexact Hsa
    · iexact H4
  isplitl [Hsb H5]
  · isplitl [Hsb]
    · iexact Hsb
    · iexact H5
  isplitl [Ho]
  · iexact Ho
  · iexact HW

theorem given_post (f₀ : (b : Ref sig .tc) → Buf (Elt F) ((c : Thread nD τ).loc b)) : iprop(kPost c x ∗ hRem c x) ⊢ iprop(given c x ∗ sizesP c x ∗ countsP c x ∗ coutP c (coutOf x) ∗ owing c) := by
  unfold given kPost codesFree
  rw [ownSems0_eq, hRing_free, aRing_free, bRing_free, scales_whole, any_whole c cc0_scratch0, any_whole c cc0_scratch1, any_whole c cc0_scratch2]
  iintro ⟨⟨Hs4, H1, Hsc, ⟨Hs3, H0, Hc⟩, Hz, Hn, Hco, H2, ⟨Hsh, H3, Hh⟩, ⟨Hsa, H4⟩, ⟨Hsb, H5⟩, Ho, HW⟩, Hrem⟩
  ihave H3 := (h_join c (f₀ cc0_scratch3)) $$ H3
  ihave H4 := (a_join c (f₀ cc0_scratch4)) $$ H4
  ihave H5 := (b_join c (f₀ cc0_scratch5)) $$ H5
  ihave Ho := (out_join c x (f₀ main_v0_0)) $$ Ho
  isplitr [Hz Hn Hco HW]
  rotate_left
  · isplitl [Hz]
    · iexact Hz
    isplitl [Hn]
    · iexact Hn
    isplitl [Hco]
    · iexact Hco
    · iexact HW
  isplitl [Hs3 Hs4 Hsh Hsa Hsb]
  · isplitl [Hs3 Hs4]
    · isplitl [Hs3]
      · iexact Hs3
      · iexact Hs4
    isplitl [Hsh]
    · iexact Hsh
    isplitl [Hsa]
    · iexact Hsa
    · iexact Hsb
  isplitl [H0 H1 H2 H3 H4 H5]
  · isplitl [H0]
    · iexact H0
    isplitl [H1]
    · iexact H1
    isplitl [H2]
    · iexact H2
    isplitl [H3]
    · iexact H3
    isplitl [H4]
    · iexact H4
    · iexact H5
  isplitl [Hc]
  · iexact Hc
  isplitl [Hsc]
  · iexact Hsc
  isplitl [Hrem Hh]
  · iapply (Transfers.pointsTo_toks_join (Ix := Unit) (Name := ℕ) (U := Pipeline.UD sig nD τ) (Lvl := ℕ) (ℓ := hH.view.loc (c : Thread nD τ)) (S := Finset.univ) (f := x.hess) fullShare 12)
    isplitl [Hrem]
    · iexact Hrem
    · iexact Hh
  · iexact Ho

/-- The kernel's body, from what it is handed to what it gives back. -/
theorem body_given (f₀ : (b : Ref sig .tc) → Buf (Elt F) ((c : Thread nD τ).loc b)) (Q : PUnit → sProp (MM F)) :
    iprop((handed c x ∗ sizesP c x ∗ countsP c x ∗ (∃ f, coutP c f) ∗ owing c)
        ∗ ((given c x ∗ sizesP c x ∗ countsP c x ∗ coutP c (coutOf x) ∗ owing c) -∗ Q ⟨⟩))
      ⊢ WP c (cc0_hessian_update (F := F) sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10) Q := by
  iintro ⟨H, Hk⟩
  icases (handed_pre c x) $$ H with ⟨H, Hrem⟩
  iapply (body_run c x Q)
  isplitl [H]
  · iexact H
  iintro H
  iapply Hk
  iapply (given_post c x f₀)
  isplitl [H]
  · iexact H
  · iexact Hrem

end Cert.KernelIdeal.Hand

end
-- ==== Proof.KernelIdeal.Run.lean ====
/- The launch: the kernel as the body of a pipeline of one point, and what every final memory holds. -/
module

public import proofs.«01_k».proof.Proof.KernelIdeal.Handed
public import proofs.«01_k».proof.Proof.Gen.KernelIdeal.Frame
public import Idealize.ShloMosaic.Lib.Pipeline.KitQuiescent
public import Idealize.ShloMosaic.Lib.Pipeline.ValueKit
public import Idealize.ShloMosaic.Adequacy
public import Idealize.ShloMosaic.Init

@[expose] public section

set_option maxRecDepth 16384

noncomputable section

namespace Cert.KernelIdeal.Hand

open Cert.KernelIdeal Cert.KernelIdeal.Gen Cert.Tile
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

open Idealize.ShloMosaic.Rounds
open Idealize.ShloMosaic.Pipeline (Dat Cfg Window BodyObligation cellOf)

variable (m : (ℓ : Loc nD τ sig) → Buf (Elt F) ℓ) (ρ : Dev nD → PrngReg)

/-! ## The proof data of the one-point pipeline -/

/-- The five inputs, as launched. -/
def inp (c : Dev nD) : Inp F where
  codes := m ((c : Thread nD τ).loc main_arg0)
  scales := m ((c : Thread nD τ).loc main_arg1)
  sizes := m ((c : Thread nD τ).loc main_arg2)
  hess := m ((c : Thread nD τ).loc main_arg3)
  counts := m ((c : Thread nD τ).loc main_arg4)

def dats (_ : Fin 1) (c : Dev nD) : Dat τ (Elt F) Unit ℕ (Pipeline.UD sig nD τ) ℕ cfg0 c where
  A w := V m c (Pipeline.arrRef spec0 w)
  after w t := match w with
    | ⟨0, _⟩ => (inp m c).sizes
    | ⟨1, _⟩ => (inp m c).counts
    | ⟨2, _⟩ => coutOf (inp m c)
  Φ t := if t.val = 0 then handed c (inp m c) else given c (inp m c)
  q _ := fullShare
  owed _ := 0

theorem iblk_0 (c : Dev nD) (t : Fin cfg0.N) : iblk m c 0 t = (inp m c).sizes := by
  obtain rfl := fin_N0 t
  funext y
  unfold iblk
  rw [View.read_apply]
  exact congrArg (m ((c : Thread nD τ).loc main_arg2)) (by funext a; apply Fin.ext; fin_cases a; simp [Window.blk]; decide +kernel)
theorem iblk_1 (c : Dev nD) (t : Fin cfg0.N) : iblk m c 1 t = (inp m c).counts := by
  obtain rfl := fin_N0 t
  funext y
  unfold iblk
  rw [View.read_apply]
  exact congrArg (m ((c : Thread nD τ).loc main_arg4)) (by funext a; apply Fin.ext; fin_cases a; simp [Window.blk]; decide +kernel)

theorem before_0 (c : Dev nD) (t : Fin cfg0.N) (d) : (dats m 0 c).before 0 t d = (inp m c).sizes := by
  rw [← iblk_0 m c t]
  unfold Dat.before; rw [if_pos (fetch0_0 t)]; unfold Dat.fetched Dat.blockOf iblk; dsimp only [dats]; rfl
theorem before_1 (c : Dev nD) (t : Fin cfg0.N) (d) : (dats m 0 c).before 1 t d = (inp m c).counts := by
  rw [← iblk_1 m c t]
  unfold Dat.before; rw [if_pos (fetch0_1 t)]; unfold Dat.fetched Dat.blockOf iblk; dsimp only [dats]; rfl
theorem after_0 (c : Dev nD) (t : Fin cfg0.N) : (dats m 0 c).after 0 t = (inp m c).sizes := by dsimp only [dats]
theorem after_1 (c : Dev nD) (t : Fin cfg0.N) : (dats m 0 c).after 1 t = (inp m c).counts := by dsimp only [dats]
theorem after_2 (c : Dev nD) (t : Fin cfg0.N) : (dats m 0 c).after 2 t = coutOf (inp m c) := by dsimp only [dats]

/-! ## The body at the one point -/

theorem own_0 (c : Dev nD) (t : Fin cfg0.N) (f : Buf (Elt F) ((c : Thread nD τ).loc cc0_stg0_0)) :
    (owns (Ix := Unit) (Name := ℕ) (U := Pipeline.UD sig nD τ) (Lvl := ℕ) (Val := Elt F) (c : Thread nD τ) (st0_0 t) fullShare f : sProp (MM F)) = ((c : Thread nD τ).loc cc0_stg0_0 ↦{fullShare} f) := by
  obtain rfl := fin_N0 t
  exact owns_whole (c : Thread nD τ) cc0_stg0_0 fullShare f
theorem own_1 (c : Dev nD) (t : Fin cfg0.N) (f : Buf (Elt F) ((c : Thread nD τ).loc cc0_stg1_0)) :
    (owns (Ix := Unit) (Name := ℕ) (U := Pipeline.UD sig nD τ) (Lvl := ℕ) (Val := Elt F) (c : Thread nD τ) (st0_1 t) fullShare f : sProp (MM F)) = ((c : Thread nD τ).loc cc0_stg1_0 ↦{fullShare} f) := by
  obtain rfl := fin_N0 t
  exact owns_whole (c : Thread nD τ) cc0_stg1_0 fullShare f
theorem own_2 (c : Dev nD) (t : Fin cfg0.N) (f : Buf (Elt F) ((c : Thread nD τ).loc cc0_stg2_0)) :
    (owns (Ix := Unit) (Name := ℕ) (U := Pipeline.UD sig nD τ) (Lvl := ℕ) (Val := Elt F) (c : Thread nD τ) (st0_2 t) fullShare f : sProp (MM F)) = ((c : Thread nD τ).loc cc0_stg2_0 ↦{fullShare} f) := by
  obtain rfl := fin_N0 t
  exact owns_whole (c : Thread nD τ) cc0_stg2_0 fullShare f

def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp (MM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem owes_at (c : Dev nD) (t : Fin (cfg0.N + 1)) : ((dats m 0 c).owesAt () t : sProp (MM F)) ⊢ owing c := by
  unfold Dat.owesAt Pipeline.owesWithin
  rw [show (dats m 0 c).owed t = 0 from rfl]
  iintro ⟨%W, -, HW⟩
  iexists W
  iexact HW
theorem owes_at' (c : Dev nD) (t : Fin (cfg0.N + 1)) : (owing c : sProp (MM F)) ⊢ (dats m 0 c).owesAt () t := by
  unfold Dat.owesAt Pipeline.owesWithin
  rw [show (dats m 0 c).owed t = 0 from rfl]
  iintro ⟨%W, HW⟩
  iexists W
  isplitr
  · ipureintro
    exact fun _ _ => Or.inl trivial
  iexact HW

theorem body_at (t : Fin cfg0.N) : bodyAt0 (F := F) t = cc0_hessian_update (F := F) sizesM (Memref.isWhole_whole _) countsM (Memref.isWhole_whole _) codesH (Memref.isWhole_whole _) scalesH (Memref.isWhole_whole _) hH (Memref.isWhole_whole _) outH (Memref.isWhole_whole _) coutM (Memref.isWhole_whole _) codesV (Memref.isWhole_whole _) scalesV (Memref.isWhole_whole _) xtV (Memref.isWhole_whole _) hV (Memref.isWhole_whole _) aV (Memref.isWhole_whole _) bV (Memref.isWhole_whole _) cc0_scratch6 cc0_scratch7 cc0_scratch8 cc0_scratch9 cc0_scratch10 := by
  obtain rfl := fin_N0 t
  rfl

theorem pre_open (c : Dev nD) (t : Fin cfg0.N) : bodyPre m c t ⊢ iprop(handed c (inp m c) ∗ sizesP c (inp m c) ∗ countsP c (inp m c) ∗ (∃ f, coutP c f) ∗ owing c) := by
  unfold bodyPre
  simp only [before_0, before_1, own_0, own_1, own_2]
  rw [show (dats m 0 c).Φ t.castSucc = handed c (inp m c) from by obtain rfl := fin_N0 t; rfl]
  iintro ⟨H, HW, ⟨%_, H0⟩, ⟨%_, H1⟩, ⟨%d, H2⟩⟩
  isplitl [H]
  · iexact H
  isplitl [H0]
  · iexact H0
  isplitl [H1]
  · iexact H1
  isplitl [H2]
  · iexists _
    iexact H2
  iapply (owes_at m c t.castSucc)
  iexact HW

theorem post_close (c : Dev nD) (t : Fin cfg0.N) : iprop(given c (inp m c) ∗ sizesP c (inp m c) ∗ countsP c (inp m c) ∗ coutP c (coutOf (inp m c)) ∗ owing c) ⊢ bodyPost m c t := by
  unfold bodyPost
  rw [after_0, after_1, after_2, own_0, own_1, own_2]
  rw [show (dats m 0 c).Φ t.succ = given c (inp m c) from by obtain rfl := fin_N0 t; rfl]
  iintro ⟨H, H0, H1, H2, HW⟩
  isplitl [H]
  · iexact H
  isplitl [HW]
  · iapply (owes_at' m c t.succ)
    iexact HW
  isplitl [H0]
  · iexact H0
  isplitl [H1]
  · iexact H1
  · iexact H2

theorem sound_body (c : Dev nD) (t : Fin cfg0.N) : bodyPre m c t ⊢ WP c (bodyAt0 (F := F) t) (fun _ => bodyPost m c t) := by
  rw [body_at t]
  iintro H
  ihave H := (pre_open m c t) $$ H
  iapply (body_given c (inp m c) (fun b => m ((c : Thread nD τ).loc b)) _)
  isplitl [H]
  · iexact H
  iintro H
  iapply (post_close m c t)
  iexact H

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

def u₀ : Pipeline.UD sig nD τ := (initOf (Pipeline.cells cfgs cellOf_inj) (Pipeline.launchToks cfgs cellOf_inj), 1)

/-- The inputs and the result the pipeline does not stage, at the launch: what the kernel is handed beside its scratch. -/
def intoΦ (c : Dev nD) : sProp (MM F) :=
  iprop(Pipeline.ownSems0 (Ix := Unit) (Name := ℕ) (U := Pipeline.UD sig nD τ) (Lvl := ℕ) (Val := Elt F) (τ := τ) osem0 c
    ∗ codesP c (inp m c) Finset.univ ∗ (scalesH.view.loc (c : Thread nD τ) ↦{fullShare} (inp m c).scales) ∗ (hH.view.loc (c : Thread nD τ) ↦{fullShare} (inp m c).hess)
    ∗ ∃ f : OutBuf F c, ((c : Thread nD τ).loc main_v0_0) ↦{fullShare} f)
/-- The same at the end. -/
def outOfΦ (c : Dev nD) : sProp (MM F) :=
  iprop(codesP c (inp m c) Finset.univ ∗ (scalesH.view.loc (c : Thread nD τ) ↦{fullShare} (inp m c).scales) ∗ (hH.view.loc (c : Thread nD τ) ↦{fullShare} (inp m c).hess)
    ∗ ∃ f : OutBuf F c, ⌜∀ s, s < 390 → DoneAt c (inp m c) f s⌝ ∗ (((c : Thread nD τ).loc main_v0_0) ↦{fullShare} f))

/-- What a final memory says of the arrays the kernel copies by hand. -/
def QY (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg3) = m ((c : Thread nD τ).loc main_arg3)
  ∧ ∀ k, k < 390 → DoneAt c (inp m c) (s.mem ((c : Thread nD τ).loc main_v0_0)) k
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

theorem into_handed (c : Dev nD) : iprop(intoΦ m c ∗ Pipeline.scopedRest (Ix := Unit) (Name := ℕ) (U := Pipeline.UD sig nD τ) (Lvl := ℕ) (Val := Elt F) spec0 c) ⊢ handed c (inp m c) := by
  rw [scopedRest0_eq]
  unfold intoΦ handed anyAt
  iintro ⟨⟨Hs, H0, H1, H3, Ho⟩, Hb⟩
  isplitl [Hs]
  · iexact Hs
  isplitl [Hb]
  · iexact Hb
  isplitl [H0]
  · iexact H0
  isplitl [H1]
  · iexact H1
  isplitl [H3]
  · iexact H3
  · iexact Ho

theorem given_out (c : Dev nD) : given c (inp m c) ⊢ iprop(outOfΦ m c ∗ Pipeline.ownSems0 (Ix := Unit) (Name := ℕ) (U := Pipeline.UD sig nD τ) (Lvl := ℕ) (Val := Elt F) (τ := τ) osem0 c ∗ Pipeline.scopedRest (Ix := Unit) (Name := ℕ) (U := Pipeline.UD sig nD τ) (Lvl := ℕ) (Val := Elt F) spec0 c) := by
  rw [scopedRest0_eq]
  unfold outOfΦ given anyAt
  iintro ⟨Hs, Hb, H⟩
  isplitl [H]
  · iexact H
  isplitl [Hs]
  · iexact Hs
  · iexact Hb

theorem out_read (c : Dev nD) (s' : Phys nD τ sig (Elt F)) : iprop(outOfΦ m c ∗ SI s') ⊢ iprop(⌜QY m c s'.mem⌝ ∗ SI s') := by
  unfold outOfΦ
  iintro ⟨⟨H0, H1, H3, ⟨%f, %hf, Ho⟩⟩, HSI⟩
  icombine HSI H0 gives %h0
  icombine HSI H1 gives %h1
  icombine HSI H3 gives %h3
  icombine HSI Ho gives %ho
  isplitr
  · ipureintro
    refine ⟨Buf.eq_of_forall_mem_univ h0, Buf.eq_of_forall_mem_univ h1, Buf.eq_of_forall_mem_univ h3, ?_⟩
    rw [show s'.mem.mem ((c : Thread nD τ).loc main_v0_0) = f from Buf.eq_of_forall_mem_univ ho]
    exact hf
  · iexact HSI

abbrev EP : Emb (UR sig nD τ) (MM F) := embL

set_option backward.isDefEq.respectTransparency.types false in
/-- From any memory with zero counters: every weakly fair execution of @main terminates, and every final state has the
    windows' arrays at the computed contents, the other inputs unchanged, every tile of the result at what its step
    writes, every semaphore counter at zero. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts0 EP defs₀ Variants.none m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp (MM F)) ⊢ bigSep Finset.univ (fun _ : Dev nD => (BI.emp : sProp (MM F))) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := intoΦ m) (Y := outOfΦ m) (Z := fun _ => iprop(emp))
    (hX := fun c => by
      rw [unscopedRest0_eq]
      unfold intoΦ
      iintro ⟨⟨H0, H1, H3, Ho⟩, HS, -, -, -⟩; imodintro
      isplitl [H0 H1 H3 Ho HS]
      · isplitl [HS]; · iexact HS
        isplitl [H0]; · iexact H0
        isplitl [H1]; · iexact H1
        isplitl [H3]; · iexact H3
        iexists _; iexact Ho
      iempintro)
    (hin := fun c => into_handed m c)
    (hout := fun c => given_out m c)
    (QY := QY m)
    (hY := fun c s' => by
      iintro ⟨H, -, HSI⟩
      imodintro
      iapply (out_read m c s')
      isplitl [H]; · iexact H
      iexact HSI)
    (hQ := fun _ hh hz => ⟨hh, hz⟩)

/-! ## The windows' arrays at the end -/

theorem arr_0 (c : Dev nD) : (dats m 0 c).arrAt 0 cfg0.N = m ((c : Thread nD τ).loc main_arg2) := (dats m 0 c).arrAt_in 0 rfl _
theorem arr_1 (c : Dev nD) : (dats m 0 c).arrAt 1 cfg0.N = m ((c : Thread nD τ).loc main_arg4) := (dats m 0 c).arrAt_in 1 rfl _
theorem arr_2 (c : Dev nD) : (dats m 0 c).arrAt 2 cfg0.N = coutOf (inp m c) := by
  refine (dats m 0 c).arrAt_eq_of_covers 2 _ (by decide +kernel) fun t hf y => ?_
  rw [after_2]
  obtain rfl := fin_N0 t
  exact congrArg (coutOf (inp m c)) (by funext a; apply Fin.ext; fin_cases a; simp [Window.blk]; decide +kernel)

/-- The run, at the buffers' names: the inputs unchanged, the counts' sum, and every step's tiles. -/
theorem run_named : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ (∀ k, k < 390 → DoneAt c (inp m c) (r.2.mem ((c : Thread nD τ).loc main_v0_0)) k)
      ∧ r.2.mem ((c : Thread nD τ).loc main_v0_1) = coutOf (inp m c))
      ∧ r.2.sem = fun _ => 0) :=
  (θ_run _ _ _).mono (fun r h => ⟨fun c => by
    obtain ⟨hw, h0, h1, h3, ho⟩ := h.1 c
    exact ⟨⟨h0, h1, (hw 0).trans (arr_0 m c), h3, (hw 1).trans (arr_1 m c)⟩, ho, (hw 2).trans (arr_2 m c)⟩, h.2⟩) (run_main m ρ)

/-- The frame: the kernel runs, its inputs end unchanged, every semaphore counter reads zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h.1 c).1, h.2⟩) (run_named m ρ)

end Cert.KernelIdeal.Hand

end
-- ==== Proof.KernelFrame.lean ====
/- The frame of the kernel at the machine's floats. The kernel and its idealization are the same program text (no operation
   was rewritten), so the run proved once at any reading of the floats is the kernel's own run. -/
module

public import proofs.«01_k».proof.Defs
public import proofs.«01_k».proof.Proof.Gen.Kernel
public import proofs.«01_k».proof.Proof.KernelIdeal.Run
public import Idealize.ShloMosaic.Lib.Tactic

@[expose] public section

set_option maxRecDepth 16384

noncomputable section

namespace Cert.Proof

open Idealize.ShloMosaic Idealize.ShloMosaic.TcCoe Idealize.SL.Sem

/-- The frame statement of the idealized program's text, at the machine's floats. -/
def FrameText : Prop :=
  letI := Cert.KernelIdeal.Gen.facts
  ∀ (m : (ℓ : Loc Cert.KernelIdeal.nD Cert.KernelIdeal.τ Cert.KernelIdeal.sig) → Buf (Elt Bits) ℓ)
    (ρ : Dev Cert.KernelIdeal.nD → PrngReg), Cert.Pre_Kernel m →
    θ_run (Cert.KernelIdeal.defs (F := Bits)) (onTc (τ := Cert.KernelIdeal.τ) (Cert.KernelIdeal.main (F := Bits)))
      ⟨m, fun _ => 0, ρ⟩ (fun r => (∀ c : Dev Cert.KernelIdeal.nD,
        r.2.mem ((c.tc : Thread _ Cert.KernelIdeal.τ).loc Cert.KernelIdeal.main_arg0) = m ((c.tc : Thread _ Cert.KernelIdeal.τ).loc Cert.KernelIdeal.main_arg0)
        ∧ r.2.mem ((c.tc : Thread _ Cert.KernelIdeal.τ).loc Cert.KernelIdeal.main_arg1) = m ((c.tc : Thread _ Cert.KernelIdeal.τ).loc Cert.KernelIdeal.main_arg1)
        ∧ r.2.mem ((c.tc : Thread _ Cert.KernelIdeal.τ).loc Cert.KernelIdeal.main_arg2) = m ((c.tc : Thread _ Cert.KernelIdeal.τ).loc Cert.KernelIdeal.main_arg2)
        ∧ r.2.mem ((c.tc : Thread _ Cert.KernelIdeal.τ).loc Cert.KernelIdeal.main_arg3) = m ((c.tc : Thread _ Cert.KernelIdeal.τ).loc Cert.KernelIdeal.main_arg3)
        ∧ r.2.mem ((c.tc : Thread _ Cert.KernelIdeal.τ).loc Cert.KernelIdeal.main_arg4) = m ((c.tc : Thread _ Cert.KernelIdeal.τ).loc Cert.KernelIdeal.main_arg4))
        ∧ r.2.sem = fun _ => 0)

theorem frameText : FrameText := fun m ρ _ => Cert.KernelIdeal.Hand.frame (F := Bits) m ρ

/-- The two statements are one. -/
theorem frame_eq : Cert.quiescent_Kernel (hKernel := Cert.Kernel.Gen.facts) = FrameText := by
  sl_kernel_rfl

theorem frame_kernel : Cert.quiescent_Kernel (hKernel := Cert.Kernel.Gen.facts) := by
  rw [frame_eq]
  exact frameText

end Cert.Proof

end
-- ==== Proof.Pay.lean ====
/- The kernel's computed values read at an index, over the extended reals. -/
module

public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.Sheet

open Cert.KernelIdeal Cert.KernelIdeal.Gen
open Idealize.ShloMosaic

/-- An entry of the dequantised, transposed rows: past the 460 stored rows it is zero. -/
theorem pay1_at (sc : Vec Ideal S1x460 .f32) (n : Elt Ideal .i32) (x : Vec Ideal S460x128 .fp8e4m3) (r : Fin 128) (k : Fin 512) :
    k0_pay1 (F := Ideal) sc n x (ix2 r k)
      = (if h : k.val < 460 then
          Scalar.select (IntOp.cmpi .slt (BitVec.ofNat 32 k.val) n) ((x (ix2 ⟨k.val, h⟩ r) : EReal) * (sc (ix2 0 ⟨k.val, h⟩) : EReal)) 0
        else 0 : EReal) := by
  pointwise [k0_pay1]
  split
  · rfl
  · simp only [Scalar.select]
    split <;> simp

/-- The weight of the old Hessian. -/
theorem pay4_at (a b : Elt Ideal .i32) : k0_pay4 (F := Ideal) a b (ix2 0 0)
    = (Ideal.div (FloatOps.sitofp (F := Ideal) FTy.f32 a) (FloatOps.sitofp (F := Ideal) FTy.f32 (IntOp.addi a b)) : EReal) := by
  pointwise [k0_pay4, k0_pay3, k0_pay2]

/-- The weight of the products. -/
theorem pay5_at (a b : Elt Ideal .i32) : k0_pay5 (F := Ideal) a b (ix2 0 0)
    = (Ideal.div (Ideal.ofBits FTy.f32 1073741824#32) (FloatOps.sitofp (F := Ideal) FTy.f32 (IntOp.addi a b)) : EReal) := by
  pointwise [k0_pay5, k0_pay3, k0_pay2]

/-- An entry of half a tile. -/
theorem pay6_at (kp g : FVec Ideal S1x1 .f32) (a : Vec Ideal S512x512 .bf16) (b : Vec Ideal S256x512 .bf16) (h : Vec Ideal S1x512x256 .f32) (r : Fin 512) (q : Fin 256) :
    k0_pay6 (F := Ideal) kp g a b h (ix2 r q)
      = ((h (ix3 0 r q) : EReal) * (kp (ix2 0 0) : EReal) + (g (ix2 0 0) : EReal) * ∑ k : Fin 512, (a (ix2 r k) : EReal) * (b (ix2 q k) : EReal) : EReal) := by
  pointwise [k0_pay6]

end Cert.Sheet

end
-- ==== Proof.Sheet.lean ====
/- The updated Hessian element by element: the kernel's tiles hold it. -/
module

public import proofs.«01_k».proof.Proof.Pay
public import proofs.«01_k».proof.Proof.KernelIdeal.Values
public import Idealize.ShloMosaic.Lib.Pointwise.IndexBridge

@[expose] public section

set_option maxRecDepth 16384

noncomputable section

namespace Cert.Sheet

open Cert.KernelIdeal Cert.KernelIdeal.Gen Cert.KernelIdeal.Hand
open Idealize.ShloMosaic

variable (x : Inp Ideal)

/-- Entry `(k, r)` of an expert's dequantised rows: zero from the expert's size on. -/
def xd (e : Fin 5) (k : Fin 460) (r : Fin 6144) : EReal :=
  Scalar.select (IntOp.cmpi .slt (BitVec.ofNat 32 k.val) (x.sizes (ix1 e))) ((x.codes (ix3 e k r) : EReal) * (x.scales (ix2 e k) : EReal)) 0

/-- The weight of the old Hessian. -/
def keep (e : Fin 5) : EReal :=
  Ideal.div (FloatOps.sitofp (F := Ideal) FTy.f32 (x.counts (ix1 e))) (FloatOps.sitofp (F := Ideal) FTy.f32 (IntOp.addi (x.counts (ix1 e)) (x.sizes (ix1 e))))

/-- The weight of the products. -/
def gain (e : Fin 5) : EReal :=
  Ideal.div (Ideal.ofBits FTy.f32 1073741824#32) (FloatOps.sitofp (F := Ideal) FTy.f32 (IntOp.addi (x.counts (ix1 e)) (x.sizes (ix1 e))))

/-- Element `(e, r, s)` of the updated Hessian. -/
def hv (e : Fin 5) (r s : Fin 6144) : EReal :=
  (x.hess (ix3 e r s) : EReal) * keep x e + gain x e * ∑ k : Fin 460, xd x e k r * xd x e k s

/-- The updated Hessian is symmetric when the old one is. -/
theorem hv_symm (hs : ∀ e r s, x.hess (ix3 e r s) = x.hess (ix3 e s r)) (e : Fin 5) (r s : Fin 6144) : hv x e r s = hv x e s r := by
  unfold hv
  rw [hs e r s]
  congr 2
  exact Finset.sum_congr rfl fun k _ => mul_comm _ _

/-- A sum over 512 whose terms past 460 are zero. -/
theorem sum_512 (g : Fin 512 → EReal) (f : Fin 460 → EReal) (h1 : ∀ k : Fin 460, g ⟨k.val, by omega⟩ = f k)
    (h2 : ∀ k : Fin 512, 460 ≤ k.val → g k = 0) : ∑ k, g k = ∑ k, f k := by
  have hsplit := Fin.sum_univ_add (a := 460) (b := 52) g
  rw [show (∑ k : Fin 512, g k) = ∑ k : Fin (460 + 52), g k from rfl, hsplit]
  rw [Finset.sum_eq_zero (s := Finset.univ) (f := fun k : Fin 52 => g (Fin.natAdd 460 k)) fun k _ => h2 _ (Nat.le_add_right _ _), add_zero]
  exact Finset.sum_congr rfl fun k _ => h1 k

/-- The transposed rows hold the dequantised rows, and zeros. -/
theorem xt_at (e : Fin 5) (r : Fin 6144) (k : Fin 512) :
    xtOf x e (ix2 r k) = (if h : k.val < 460 then xd x e ⟨k.val, h⟩ r else 0 : EReal) := by
  refine Eq.trans (b := k0_pay1 (F := Ideal) (scRow x e) (x.sizes (ix1 e)) (chunkAt x e ⟨r.val / 128, by omega⟩) (ix2 (⟨r.val % 128, Nat.mod_lt _ (by omega)⟩ : Fin 128) k)) ?_ ?_
  · rw [ix2_eq_valueIdx, ix2_eq_valueIdx, ix1_eq_valueIdx]; rfl
  · rw [pay1_at]
    have hx : ∀ h : k.val < 460, chunkAt x e ⟨r.val / 128, by omega⟩ (ix2 (⟨k.val, h⟩ : Fin 460) (⟨r.val % 128, Nat.mod_lt _ (by omega)⟩ : Fin 128)) = x.codes (ix3 e ⟨k.val, h⟩ r) := by
      intro h
      exact congrArg x.codes ((ix3_eq_valueIdx _ _ _).symm.trans (congrArg (ix3 e _) (Fin.ext (Nat.div_add_mod r.val 128))))
    have hs : ∀ h : k.val < 460, scRow x e (ix2 (0 : Fin 1) (⟨k.val, h⟩ : Fin 460)) = x.scales (ix2 e ⟨k.val, h⟩) := by
      intro h
      exact congrArg x.scales (ix2_eq_valueIdx _ _).symm
    split
    · rename_i h
      rw [hx h, hs h]; rfl
    · rfl

/-- The products of two features. -/
theorem sum_xt (e : Fin 5) (r s : Fin 6144) :
    (∑ k : Fin 512, (xtOf x e (ix2 r k) : EReal) * (xtOf x e (ix2 s k) : EReal)) = ∑ k : Fin 460, xd x e k r * xd x e k s := by
  refine sum_512 _ _ (fun k => ?_) (fun k hk => ?_)
  · rw [xt_at, xt_at, dif_pos k.isLt, dif_pos k.isLt]
  · rw [xt_at, dif_neg (by omega), zero_mul]

/-- An element of half a tile. -/
theorem half_at (e : Fin 5) (i j : Fin 12) (h : Fin 2) (a : Fin 512) (q : Fin 256) :
    halfOf x e i j h (ix2 a q) = hv x e ⟨512 * i.val + a.val, by omega⟩ ⟨512 * j.val + 256 * h.val + q.val, by omega⟩ := by
  unfold halfOf
  rw [pay6_at]
  have hH : hHalf x e i j h (ix3 (0 : Fin 1) a q) = x.hess (ix3 e ⟨512 * i.val + a.val, by omega⟩ ⟨512 * j.val + 256 * h.val + q.val, by omega⟩) := by
    exact congrArg x.hess (ix3_eq_valueIdx _ _ _).symm
  have hL : ∀ k : Fin 512, lhsOf x e i (ix2 a k) = xtOf x e (ix2 (⟨512 * i.val + a.val, by omega⟩ : Fin 6144) k) := by
    intro k
    exact congrArg (xtOf x e) (ix2_eq_valueIdx _ _).symm
  have hR : ∀ k : Fin 512, rhsOf x e j h (ix2 q k) = xtOf x e (ix2 (⟨512 * j.val + 256 * h.val + q.val, by omega⟩ : Fin 6144) k) := by
    intro k
    exact congrArg (xtOf x e) (ix2_eq_valueIdx _ _).symm
  have hK : keepOf x e (ix2 (0 : Fin 1) (0 : Fin 1)) = keep x e := by
    unfold keepOf
    rw [pay4_at, ← ix1_eq_valueIdx]
    rfl
  have hG : gainOf x e (ix2 (0 : Fin 1) (0 : Fin 1)) = gain x e := by
    unfold gainOf
    rw [pay5_at, ← ix1_eq_valueIdx]
    rfl
  rw [hH, hK, hG]
  unfold hv
  rw [← sum_xt]
  congr 2

/-- An element of a tile. -/
theorem tile_at (e : Fin 5) (i j : Fin 12) (a b : Fin 512) :
    tileOf x e i j (ix2 a b) = hv x e ⟨512 * i.val + a.val, by omega⟩ ⟨512 * j.val + b.val, by omega⟩ := by
  refine Eq.trans (b := halfOf x e i j ⟨b.val / 256, by omega⟩ (ix2 a (⟨b.val % 256, Nat.mod_lt _ (by omega)⟩ : Fin 256))) ?_ ?_
  · rw [ix2_eq_valueIdx, ix2_eq_valueIdx]; rfl
  · rw [half_at]
    refine congrArg (hv x e _) (Fin.ext ?_)
    show 512 * j.val + 256 * (b.val / 256) + b.val % 256 = 512 * j.val + b.val
    omega

/-- An element of a transposed tile. -/
theorem tileT_at (e : Fin 5) (i j : Fin 12) (a b : Fin 512) :
    tileT x e i j (ix2 a b) = hv x e ⟨512 * i.val + b.val, by omega⟩ ⟨512 * j.val + a.val, by omega⟩ := by
  rw [← tile_at, ix2_eq_valueIdx, ix2_eq_valueIdx]
  rfl

end Cert.Sheet

end
-- ==== Proof.ReferenceIdeal.Run.lean ====
/- What the reference ends holding: its two results as functions of its arguments. -/
module

public import proofs.«01_k».proof.Proof.Gen.ReferenceIdeal.Frame
public import Idealize.ShloMosaic.Lib.Claim
public import Idealize.ShloMosaic.Lib.Pipeline.Value
public import Idealize.ShloMosaic.Lib.Pipeline.ValueKit.Geometry
public import Idealize.ShloMosaic.Lib.StableHlo.RunRead
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-- The codes read as bf16 numbers. -/
abbrev codesOf (c : Dev nD) : Buf (Elt Ideal) ((c : Thread nD τ).loc main_v0) :=
  k0_pay1 (F := Ideal) (m ((c : Thread nD τ).loc main_arg0))

/-- The origin. -/
theorem hz : (![0, 0, 0] : Fin 3 → Nat) = fun _ => 0 := funext fun a => by fin_cases a <;> rfl

/-- The one point writes back the codes as bf16 numbers. -/
theorem flushed_eq (c : Dev nD) (t : Fin cfg0.N) :
    (dats m 0 c).flushed 1 t = (win0_1.blk t).view.read (Elt Ideal) (codesOf m c) := by
  show (cfg0.win 1).cut (grid0.coords t) ((dats m 0 c).after 1 t) = _
  rw [after0_1]
  unfold out0_1
  rw [View.canon_unit_zero hz, View.ld_unit_zero hz]
  rfl

theorem arr1 (c : Dev nD) : (dats m 0 c).arrAt 1 cfg0.N = codesOf m c := by
  refine (dats m 0 c).arrAt_eq_of_cover 1 _ (fun t _ => flushed_eq m c t) ?_
  exact Pipeline.Window.Covers.cover (cfg0.win 1) (by decide +kernel) (Memref.isWhole_whole _)

/-- The buffers when the host operations begin. -/
def Wv (c : Dev nD) : Valuation τ sig (Elt Ideal) :=
  Pipeline.withArrays spec0 c (V0 m c) fun w => (dats m 0 c).arrAt w cfg0.N

theorem Wv_v0 (c : Dev nD) : Wv m c (Proc.devRef .tc main_v0) = codesOf m c :=
  (Pipeline.withArrays_arr spec0 launch0.win.arr_inj c (V0 m c) (fun w => (dats m 0 c).arrAt w cfg0.N) 1).trans (arr1 m c)
theorem Wv_arg1 (c : Dev nD) : Wv m c (Proc.devRef .tc main_arg1) = m ((c : Thread nD τ).loc main_arg1) :=
  Pipeline.withArrays_of_ne _ c (V0 m c) _ main_arg1 (by exact (by decide : ∀ w, Pipeline.arrRef spec0 w ≠ main_arg1))
theorem Wv_arg2 (c : Dev nD) : Wv m c (Proc.devRef .tc main_arg2) = m ((c : Thread nD τ).loc main_arg2) :=
  Pipeline.withArrays_of_ne _ c (V0 m c) _ main_arg2 (by exact (by decide : ∀ w, Pipeline.arrRef spec0 w ≠ main_arg2))
theorem Wv_arg3 (c : Dev nD) : Wv m c (Proc.devRef .tc main_arg3) = m ((c : Thread nD τ).loc main_arg3) :=
  Pipeline.withArrays_of_ne _ c (V0 m c) _ main_arg3 (by exact (by decide : ∀ w, Pipeline.arrRef spec0 w ≠ main_arg3))
theorem Wv_arg4 (c : Dev nD) : Wv m c (Proc.devRef .tc main_arg4) = m ((c : Thread nD τ).loc main_arg4) :=
  Pipeline.withArrays_of_ne _ c (V0 m c) _ main_arg4 (by exact (by decide : ∀ w, Pipeline.arrRef spec0 w ≠ main_arg4))

theorem tail (c : Dev nD) (b : Ref sig .tc) :
    Pipeline.afterTail₀ cfgs (dats m) 0 (V0 m) [hostOps1, hostOps1_1, hostOps1_2] c b
      = StableHlo.after ([hostOps1, hostOps1_1, hostOps1_2] : List (List (HloOp τ sig (Elt Ideal)))).flatten (Wv m c) (Proc.devRef .tc b) := rfl

/-- The rows of the batch that count, times their scales; the others zero. -/
def xdOf (codes : Vec Ideal S5x460x6144 .fp8e4m3) (scales : Vec Ideal S5x460 .f32) (sizes : Vec Ideal S5 .i32) :
    FVec Ideal S5x460x6144 .bf16 :=
  select
    (broadcastInDim S5x460x6144 ![0, 1, 2] bcast_S5x460x1_S5x460x6144_0_1_2
      (broadcastInDim S5x460x1 ![0, 1] bcast_S5x460_S5x460x1_0_1
        (cmpi CmpIPredicate.slt
          (broadcastInDim S5x460 ![0, 1] bcast_S1x460_S5x460_0_1
            (broadcastInDim S1x460 ![1] bcast_S460_S1x460_1 (iotaInDim S460 32 0)))
          (broadcastInDim S5x460 ![0, 1] bcast_S5x1_S5x460_0_1
            (broadcastInDim S5x1 ![0] bcast_S5_S5x1_0 sizes)))))
    (mulf (k0_pay1 (F := Ideal) codes)
      (broadcastInDim S5x460x6144 ![0, 1, 2] bcast_S5x460x1_S5x460x6144_0_1_2
        (broadcastInDim S5x460x1 ![0, 1] bcast_S5x460_S5x460x1_0_1
          (truncf FTy.bf16 scales bitsLt_bf16_f32))))
    (broadcastInDim S5x460x6144 ![] bcast_S_S5x460x6144 (constant S_ FTy.bf16 0#16))

/-- The reference's first result. -/
def hessOf (codes : Vec Ideal S5x460x6144 .fp8e4m3) (scales : Vec Ideal S5x460 .f32) (sizes : Vec Ideal S5 .i32)
    (hess : Vec Ideal S5x6144x6144 .f32) (counts : Vec Ideal S5 .i32) : FVec Ideal S5x6144x6144 .f32 :=
  addf
    (mulf hess
      (broadcastInDim S5x6144x6144 ![0, 1, 2] bcast_S5x1x1_S5x6144x6144_0_1_2
        (broadcastInDim S5x1x1 ![0] bcast_S5_S5x1x1_0
          (Host.divf (sitofp FTy.f32 counts) (sitofp FTy.f32 (addi counts sizes))))))
    (mulf
      (broadcastInDim S5x6144x6144 ![0, 1, 2] bcast_S5x1x1_S5x6144x6144_0_1_2
        (broadcastInDim S5x1x1 ![0] bcast_S5_S5x1x1_0
          (Host.divf (broadcastInDim S5 ![] bcast_S_S5 (constant S_ FTy.f32 1073741824#32))
            (sitofp FTy.f32 (addi counts sizes)))))
      (Host.dotGeneral dot_S5x460x6144_S5x460x6144_S5x6144x6144_1_1_2_2_0_0 none
        (xdOf codes scales sizes) (xdOf codes scales sizes)))

theorem counts_val (c : Dev nD) :
    Pipeline.afterTail₀ cfgs (dats m) 0 (V0 m) [hostOps1, hostOps1_1, hostOps1_2] c main_v14
      = addi (s := S5) (m ((c : Thread nD τ).loc main_arg4)) (m ((c : Thread nD τ).loc main_arg2)) := by
  rw [tail]
  generalize hW : Wv m c = W
  simp only [List.flatten_cons, List.flatten_nil, List.append_nil]
  after_reads_simp
  subst hW
  rw [Wv_arg2, Wv_arg4]

theorem hess_val (c : Dev nD) :
    Pipeline.afterTail₀ cfgs (dats m) 0 (V0 m) [hostOps1, hostOps1_1, hostOps1_2] c main_v26
      = hessOf (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail]
  generalize hW : Wv m c = W
  simp only [List.flatten_cons, List.flatten_nil, List.append_nil]
  after_reads_simp
  subst hW
  rw [Wv_arg1, Wv_arg2, Wv_arg3, Wv_arg4, Wv_v0]
  rfl

/-- The reference's run: its two results as functions of its arguments, and the arguments unchanged. -/
theorem run_all : θ_run (defs (F := Ideal)) (onTc (τ := τ) (main (F := Ideal))) ⟨m, fun _ => 0, ρ⟩ (fun r => ∀ c : Dev nD,
      r.2.mem ((c.tc : Thread nD τ).loc main_v26)
        = hessOf (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c.tc : Thread nD τ).loc main_v14)
        = addi (s := S5) (m ((c : Thread nD τ).loc main_arg4)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, ?_, ?_, ?_, ?_, ?_, ?_⟩) (run_main m ρ)
  · exact ((h c).2 main_v26 (Pipeline.mem_restRefs_of main_v26 (by decide) (by decide))).trans (hess_val m c)
  · exact ((h c).2 main_v14 (Pipeline.mem_restRefs_of main_v14 (by decide) (by decide))).trans (counts_val m c)
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)

/-- A row of the batch read at an index. -/
theorem xdOf_at (codes : Vec Ideal S5x460x6144 .fp8e4m3) (scales : Vec Ideal S5x460 .f32) (sizes : Vec Ideal S5 .i32)
    (e : Fin 5) (k : Fin 460) (r : Fin 6144) :
    xdOf codes scales sizes (ix3 e k r)
      = (Scalar.select (IntOp.cmpi CmpIPredicate.slt (BitVec.ofNat 32 k.val) (sizes (ix1 e)))
          ((codes (ix3 e k r) : EReal) * (scales (ix2 e k) : EReal)) 0 : EReal) := by
  pointwise [xdOf, k0_pay1]

/-- The first result read at an index. -/
theorem hessOf_at (codes : Vec Ideal S5x460x6144 .fp8e4m3) (scales : Vec Ideal S5x460 .f32) (sizes : Vec Ideal S5 .i32)
    (hess : Vec Ideal S5x6144x6144 .f32) (counts : Vec Ideal S5 .i32) (e : Fin 5) (r s : Fin 6144) :
    hessOf codes scales sizes hess counts (ix3 e r s)
      = ((hess (ix3 e r s) : EReal) * Ideal.div (FloatOps.sitofp (F := Ideal) FTy.f32 (counts (ix1 e)))
            (FloatOps.sitofp (F := Ideal) FTy.f32 (IntOp.addi (counts (ix1 e)) (sizes (ix1 e))))
          + Ideal.div (Ideal.ofBits FTy.f32 1073741824#32)
              (FloatOps.sitofp (F := Ideal) FTy.f32 (IntOp.addi (counts (ix1 e)) (sizes (ix1 e))))
            * ∑ k : Fin 460, (xdOf codes scales sizes (ix3 e k r) : EReal) * (xdOf codes scales sizes (ix3 e k s) : EReal) : EReal) := by
  pointwise [hessOf]

end Cert.ReferenceIdeal.Hand

end
-- ==== Proof.Whole.lean ====
/- The two results: what the kernel leaves is what the reference computes. -/
module

public import proofs.«01_k».proof.Proof.Sheet
public import proofs.«01_k».proof.Proof.KernelIdeal.Run
public import proofs.«01_k».proof.Proof.ReferenceIdeal.Run
public import proofs.«01_k».proof.Pre_symmetric
public import proofs.«01_k».proof.Proof.Gen.Pre_symmetric

@[expose] public section

set_option maxRecDepth 16384

noncomputable section

namespace Cert.Sheet

open Cert.KernelIdeal Cert.KernelIdeal.Gen Cert.KernelIdeal.Hand Cert.Tile
open Idealize.ShloMosaic Idealize.ShloMosaic.TcCoe

variable (x : Inp Ideal) (c : Dev nD)

/-- Every element of the kernel's result array, once every tile is written: the step of the element's tile, or of the tile
    across the diagonal, wrote it. -/
theorem whole_at (hs : ∀ e r s, x.hess (ix3 e r s) = x.hess (ix3 e s r)) (f : OutBuf Ideal c)
    (hf : ∀ k, k < 390 → DoneAt c x f k) (e : Fin 5) (r s : Fin 6144) :
    (f : S5x6144x6144.Idx → EReal) (ix3 e r s) = hv x e r s := by
  have hr : 512 * (r.val / 512) + r.val % 512 = r.val := Nat.div_add_mod _ _
  have hs' : 512 * (s.val / 512) + s.val % 512 = s.val := Nat.div_add_mod _ _
  set i : Fin 12 := ⟨r.val / 512, by omega⟩ with hi
  set j : Fin 12 := ⟨s.val / 512, by omega⟩ with hj
  set a : Fin 512 := ⟨r.val % 512, Nat.mod_lt _ (by omega)⟩ with ha
  set b : Fin 512 := ⟨s.val % 512, Nat.mod_lt _ (by omega)⟩ with hb
  have er : (⟨512 * i.val + a.val, by omega⟩ : Fin 6144) = r := Fin.ext hr
  have es : (⟨512 * j.val + b.val, by omega⟩ : Fin 6144) = s := Fin.ext hs'
  have hread : ∀ (i' j' : Fin 12) (a' b' : Fin 512) (h1 : (⟨512 * i'.val + a'.val, by omega⟩ : Fin 6144) = r)
      (h2 : (⟨512 * j'.val + b'.val, by omega⟩ : Fin 6144) = s),
      (oBlk e i' j').view.read (Elt Ideal) f (ValueIdx.ix2 a' b') = (f : S5x6144x6144.Idx → EReal) (ix3 e r s) := by
    intro i' j' a' b' h1 h2
    rw [oBlk_read, h1, h2, ix3_eq_valueIdx]
  rw [← hread i j a b er es]
  rcases Nat.lt_or_ge j.val i.val with h | h
  · have hd := (hf _ (stepF_lt e j i h.le)).2
    unfold tileTS at hd
    rw [tE_stepF e j i h.le, tI_stepF e j i h.le, tJ_stepF e j i h.le] at hd
    rw [hd (by omega), ← ix2_eq_valueIdx, tileT_at, er, es]
    exact hv_symm x hs e s r
  · have hd := (hf _ (stepF_lt e i j h)).1
    unfold tileS at hd
    rw [tE_stepF e i j h, tI_stepF e i j h, tJ_stepF e i j h] at hd
    rw [hd, ← ix2_eq_valueIdx, tile_at, er, es]

/-- The reference's first result at an element. -/
theorem ref_at (e : Fin 5) (r s : Fin 6144) :
    (Cert.ReferenceIdeal.Hand.hessOf x.codes x.scales x.sizes x.hess x.counts (ix3 e r s) : EReal) = hv x e r s := by
  rw [Cert.ReferenceIdeal.Hand.hessOf_at]
  unfold hv keep gain
  congr 2
  exact Finset.sum_congr rfl fun k _ => by
    rw [Cert.ReferenceIdeal.Hand.xdOf_at, Cert.ReferenceIdeal.Hand.xdOf_at]; rfl

/-- The kernel's first result is the reference's. -/
theorem whole_eq (hs : ∀ e r s, x.hess (ix3 e r s) = x.hess (ix3 e s r)) (f : OutBuf Ideal c)
    (hf : ∀ k, k < 390 → DoneAt c x f k) :
    f = Cert.ReferenceIdeal.Hand.hessOf x.codes x.scales x.sizes x.hess x.counts := by
  funext y
  obtain ⟨e, r, s, rfl⟩ : ∃ e r s, y = ix3 e r s := ⟨y 0, y 1, y 2, eq_ix3 y⟩
  exact (whole_at x c hs f hf e r s).trans (ref_at x e r s).symm

/-- The precondition read at an element: the old Hessian is symmetric. -/
theorem symm_of (h : Cert.Pre_symmetric.fn (F := Ideal) x.codes x.scales x.sizes x.hess x.counts = fun _ => 1#1)
    (e : Fin 5) (r s : Fin 6144) : x.hess (ix3 e r s) = x.hess (ix3 e s r) := by
  have h := congrFun h (ix3 e r s)
  revert h
  pointwise [Cert.Pre_symmetric.fn]
  intro h
  by_contra hne
  rw [decide_eq_false hne] at h
  exact absurd h (by decide)

end Cert.Sheet

end
-- ==== Proof.lean ====
module

public import proofs.«01_k».proof.Defs
public import proofs.«01_k».proof.Proof.Gen.Kernel
public import proofs.«01_k».proof.Proof.Gen.KernelIdeal
public import proofs.«01_k».proof.Proof.Gen.Pre_symmetric
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelIdeal.Run
public import proofs.«01_k».proof.Proof.KernelFrame
public import proofs.«01_k».proof.Proof.Whole

@[expose] public section

namespace Cert.Proof

open Idealize.ShloMosaic Idealize.ShloMosaic.TcCoe Idealize.SL.Sem

/-- The kernel's two results are the reference's, from memories that agree on the arguments. -/
theorem algebraic : Cert.algebraic_KernelIdeal_ReferenceIdeal_pre_symmetric (hKernelIdeal := Cert.KernelIdeal.Gen.facts)
    (hReferenceIdeal := Cert.ReferenceIdeal.Gen.facts) (hPre_symmetric := Cert.Pre_symmetric.Gen.facts) := by
  intro m g m' g' hpre hargs
  refine ⟨fun c => Cert.ReferenceIdeal.Hand.hessOf (Cert.KernelIdeal.Hand.inp m c).codes (Cert.KernelIdeal.Hand.inp m c).scales
      (Cert.KernelIdeal.Hand.inp m c).sizes (Cert.KernelIdeal.Hand.inp m c).hess (Cert.KernelIdeal.Hand.inp m c).counts,
    fun c => Cert.KernelIdeal.Hand.coutOf (Cert.KernelIdeal.Hand.inp m c), ?_, ?_⟩
  · refine (θ_run _ _ _).mono (fun r h c => ?_) (Cert.KernelIdeal.Hand.run_named m g)
    obtain ⟨hin, hdone, hc⟩ := h.1 c
    exact ⟨Cert.Sheet.whole_eq (Cert.KernelIdeal.Hand.inp m c) c (Cert.Sheet.symm_of _ (hpre c)) _ hdone, hc, hin⟩
  · refine ((θ_run _ _ _).mono (fun r h c => ?_)) (Cert.ReferenceIdeal.Hand.run_all m' g')
    obtain ⟨h0, h1, h2, h3, h4⟩ := hargs c
    obtain ⟨hh, hc, hin⟩ := h c
    refine ⟨hh.trans ?_, hc.trans ?_, hin⟩
    · rw [h0, h1, h2, h3, h4]; rfl
    · rw [h2, h4]; rfl

theorem claim : Cert.Claim := ⟨Cert.Kernel.Gen.facts, Cert.KernelIdeal.Gen.facts, Cert.ReferenceIdeal.Gen.facts, Cert.Pre_symmetric.Gen.facts,
  frame_kernel, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, algebraic⟩

end Cert.Proof
